-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_below_infinity [hPre_weights_below_infinity : Cert.Pre_weights_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_weights_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_weights_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_weights_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_below_infinity [hPre_weights_below_infinity : Cert.Pre_weights_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_weights_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_weights_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_weights_below_infinity [hKernelIdeal : Cert.KernelIdeal.Facts] [hPre_weights_below_infinity : Cert.Pre_weights_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_weights_below_infinity [hReferenceIdeal : Cert.ReferenceIdeal.Facts] [hPre_weights_below_infinity : Cert.Pre_weights_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_weights_below_infinity [hKernelIdeal : Cert.KernelIdeal.Facts] [hReferenceIdeal : Cert.ReferenceIdeal.Facts] [hPre_weights_below_infinity : Cert.Pre_weights_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v535) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_weights_below_infinity : Cert.Pre_weights_below_infinity.Facts),
    quiescent_Kernel (hKernel := hKernel)
    ∧ quiescent_KernelIdeal (hKernelIdeal := hKernelIdeal)
    ∧ quiescent_KernelIdeal_pre_weights_below_infinity (hKernelIdeal := hKernelIdeal) (hPre_weights_below_infinity := hPre_weights_below_infinity)
    ∧ quiescent_ReferenceIdeal (hReferenceIdeal := hReferenceIdeal)
    ∧ quiescent_ReferenceIdeal_pre_weights_below_infinity (hReferenceIdeal := hReferenceIdeal) (hPre_weights_below_infinity := hPre_weights_below_infinity)
    ∧ preserves_Kernel_KernelIdeal
    ∧ algebraic_KernelIdeal_ReferenceIdeal_pre_weights_below_infinity (hKernelIdeal := hKernelIdeal) (hReferenceIdeal := hReferenceIdeal) (hPre_weights_below_infinity := hPre_weights_below_infinity)
-- ==== Pre_weights_below_infinity.lean ====
abbrev S2x128x128 : Shape := ⟨3, ![2, 128, 128]⟩
abbrev S30x2x5x5 : Shape := ⟨4, ![30, 2, 5, 5]⟩
abbrev S100x30x3x3 : Shape := ⟨4, ![100, 30, 3, 3]⟩
abbrev S200x100x3x3 : Shape := ⟨4, ![200, 100, 3, 3]⟩
abbrev S_ : Shape := ⟨0, ![]⟩

class Facts : Prop where
  bcast_S_S30x2x5x5 : S_.BroadcastsInDim S30x2x5x5 (![] : Fin 0 → Fin S30x2x5x5.rank)
  bcast_S_S100x30x3x3 : S_.BroadcastsInDim S100x30x3x3 (![] : Fin 0 → Fin S100x30x3x3.rank)
  bcast_S_S200x100x3x3 : S_.BroadcastsInDim S200x100x3x3 (![] : Fin 0 → Fin S200x100x3x3.rank)

variable [Facts]

def fn {F : FTy → Type} [FloatOps F] (main_arg0 : FVec F S2x128x128 .f32) (main_arg1 : FVec F S30x2x5x5 .f32) (main_arg2 : FVec F S100x30x3x3 .f32) (main_arg3 : FVec F S200x100x3x3 .f32) : IVec S30x2x5x5 1 × IVec S100x30x3x3 1 × IVec S200x100x3x3 1 :=
  let main_cst : FVec F S_ .f32 := constant S_ .f32 0x7F800000#32
  let main_v0 : FVec F S30x2x5x5 .f32 := broadcastInDim S30x2x5x5 ![] bcast_S_S30x2x5x5 main_cst
  let main_v1 : IVec S30x2x5x5 1 := cmpf .olt main_arg1 main_v0
  let main_cst_0 : FVec F S_ .f32 := constant S_ .f32 0x7F800000#32
  let main_v2 : FVec F S100x30x3x3 .f32 := broadcastInDim S100x30x3x3 ![] bcast_S_S100x30x3x3 main_cst_0
  let main_v3 : IVec S100x30x3x3 1 := cmpf .olt main_arg2 main_v2
  let main_cst_1 : FVec F S_ .f32 := constant S_ .f32 0x7F800000#32
  let main_v4 : FVec F S200x100x3x3 .f32 := broadcastInDim S200x100x3x3 ![] bcast_S_S200x100x3x3 main_cst_1
  let main_v5 : IVec S200x100x3x3 1 := cmpf .olt main_arg3 main_v4
  (main_v1, main_v3, main_v5)
-- ==== Kernel.lean ====
abbrev S2x128x128 : Shape := ⟨3, ![2, 128, 128]⟩
abbrev S30x2x5x5 : Shape := ⟨4, ![30, 2, 5, 5]⟩
abbrev S100x30x3x3 : Shape := ⟨4, ![100, 30, 3, 3]⟩
abbrev S200x100x3x3 : Shape := ⟨4, ![200, 100, 3, 3]⟩
abbrev S30x5x5x2 : Shape := ⟨4, ![30, 5, 5, 2]⟩
abbrev S_ : Shape := ⟨0, ![]⟩
abbrev S30x5x5x8 : Shape := ⟨4, ![30, 5, 5, 8]⟩
abbrev S30x200 : Shape := ⟨2, ![30, 200]⟩
abbrev S100x3x3x30 : Shape := ⟨4, ![100, 3, 3, 30]⟩
abbrev S100x3x3x32 : Shape := ⟨4, ![100, 3, 3, 32]⟩
abbrev S100x288 : Shape := ⟨2, ![100, 288]⟩
abbrev S200x3x3x100 : Shape := ⟨4, ![200, 3, 3, 100]⟩
abbrev S200x3x3x104 : Shape := ⟨4, ![200, 3, 3, 104]⟩
abbrev S200x936 : Shape := ⟨2, ![200, 936]⟩
abbrev S30x936 : Shape := ⟨2, ![30, 936]⟩
abbrev S100x936 : Shape := ⟨2, ![100, 936]⟩
abbrev S330x936 : Shape := ⟨2, ![330, 936]⟩
abbrev S200x32x32 : Shape := ⟨3, ![200, 32, 32]⟩
abbrev S6x128x128 : Shape := ⟨3, ![6, 128, 128]⟩
abbrev S8x128x128 : Shape := ⟨3, ![8, 128, 128]⟩
abbrev S8x2x128 : Shape := ⟨3, ![8, 2, 128]⟩
abbrev S8x132x128 : Shape := ⟨3, ![8, 132, 128]⟩
abbrev S8x16896 : Shape := ⟨2, ![8, 16896]⟩
abbrev S8x128 : Shape := ⟨2, ![8, 128]⟩
abbrev S8x256 : Shape := ⟨2, ![8, 256]⟩
abbrev S8x17280 : Shape := ⟨2, ![8, 17280]⟩
abbrev S8x17024 : Shape := ⟨2, ![8, 17024]⟩
abbrev S8x16384 : Shape := ⟨2, ![8, 16384]⟩
abbrev S200x16384 : Shape := ⟨2, ![200, 16384]⟩
abbrev S30x16384 : Shape := ⟨2, ![30, 16384]⟩
abbrev S16384 : Shape := ⟨1, ![16384]⟩
abbrev S1x16384 : Shape := ⟨2, ![1, 16384]⟩
abbrev S1920x256 : Shape := ⟨2, ![1920, 256]⟩
abbrev S1920x128 : Shape := ⟨2, ![1920, 128]⟩
abbrev S128x64 : Shape := ⟨2, ![128, 64]⟩
abbrev S1920x64 : Shape := ⟨2, ![1920, 64]⟩
abbrev S30x64x64 : Shape := ⟨3, ![30, 64, 64]⟩
abbrev S2x64x64 : Shape := ⟨3, ![2, 64, 64]⟩
abbrev S32x64x64 : Shape := ⟨3, ![32, 64, 64]⟩
abbrev S32x1x64 : Shape := ⟨3, ![32, 1, 64]⟩
abbrev S32x66x64 : Shape := ⟨3, ![32, 66, 64]⟩
abbrev S32x4224 : Shape := ⟨2, ![32, 4224]⟩
abbrev S32x128 : Shape := ⟨2, ![32, 128]⟩
abbrev S32x256 : Shape := ⟨2, ![32, 256]⟩
abbrev S32x4608 : Shape := ⟨2, ![32, 4608]⟩
abbrev S32x4352 : Shape := ⟨2, ![32, 4352]⟩
abbrev S32x4096 : Shape := ⟨2, ![32, 4096]⟩
abbrev S288x4096 : Shape := ⟨2, ![288, 4096]⟩
abbrev S100x4096 : Shape := ⟨2, ![100, 4096]⟩
abbrev S4096 : Shape := ⟨1, ![4096]⟩
abbrev S1x4096 : Shape := ⟨2, ![1, 4096]⟩
abbrev S3200x128 : Shape := ⟨2, ![3200, 128]⟩
abbrev S3200x64 : Shape := ⟨2, ![3200, 64]⟩
abbrev S64x32 : Shape := ⟨2, ![64, 32]⟩
abbrev S3200x32 : Shape := ⟨2, ![3200, 32]⟩
abbrev S100x32x32 : Shape := ⟨3, ![100, 32, 32]⟩
abbrev S4x32x32 : Shape := ⟨3, ![4, 32, 32]⟩
abbrev S104x32x32 : Shape := ⟨3, ![104, 32, 32]⟩
abbrev S104x1x32 : Shape := ⟨3, ![104, 1, 32]⟩
abbrev S104x34x32 : Shape := ⟨3, ![104, 34, 32]⟩
abbrev S104x1088 : Shape := ⟨2, ![104, 1088]⟩
abbrev S104x128 : Shape := ⟨2, ![104, 128]⟩
abbrev S104x256 : Shape := ⟨2, ![104, 256]⟩
abbrev S104x1472 : Shape := ⟨2, ![104, 1472]⟩
abbrev S104x1216 : Shape := ⟨2, ![104, 1216]⟩
abbrev S104x1024 : Shape := ⟨2, ![104, 1024]⟩
abbrev S936x1024 : Shape := ⟨2, ![936, 1024]⟩
abbrev S200x1024 : Shape := ⟨2, ![200, 1024]⟩
abbrev S1024 : Shape := ⟨1, ![1024]⟩
abbrev S1x1024 : Shape := ⟨2, ![1, 1024]⟩
abbrev S200x32 : Shape := ⟨2, ![200, 32]⟩
abbrev S200x1x32 : Shape := ⟨3, ![200, 1, 32]⟩

abbrev nBuf : Space → Nat
  | .hbm => 27
  | .vmem => 3
  | .smem => 0
  | _ => 0

abbrev bufTy : (tb : Table) → Fin (tcTables nBuf tb) → BufTy
  | .hbm, ⟨0, _⟩ => ⟨S2x128x128, .f32⟩
  | .hbm, ⟨1, _⟩ => ⟨S30x2x5x5, .f32⟩
  | .hbm, ⟨2, _⟩ => ⟨S100x30x3x3, .f32⟩
  | .hbm, ⟨3, _⟩ => ⟨S200x100x3x3, .f32⟩
  | .hbm, ⟨4, _⟩ => ⟨S30x5x5x2, .f32⟩
  | .hbm, ⟨5, _⟩ => ⟨S_, .i32⟩
  | .hbm, ⟨6, _⟩ => ⟨S_, .f32⟩
  | .hbm, ⟨7, _⟩ => ⟨S30x5x5x8, .f32⟩
  | .hbm, ⟨8, _⟩ => ⟨S30x200, .f32⟩
  | .hbm, ⟨9, _⟩ => ⟨S100x3x3x30, .f32⟩
  | .hbm, ⟨10, _⟩ => ⟨S_, .i32⟩
  | .hbm, ⟨11, _⟩ => ⟨S_, .f32⟩
  | .hbm, ⟨12, _⟩ => ⟨S100x3x3x32, .f32⟩
  | .hbm, ⟨13, _⟩ => ⟨S100x288, .f32⟩
  | .hbm, ⟨14, _⟩ => ⟨S200x3x3x100, .f32⟩
  | .hbm, ⟨15, _⟩ => ⟨S_, .i32⟩
  | .hbm, ⟨16, _⟩ => ⟨S_, .f32⟩
  | .hbm, ⟨17, _⟩ => ⟨S200x3x3x104, .f32⟩
  | .hbm, ⟨18, _⟩ => ⟨S200x936, .f32⟩
  | .hbm, ⟨19, _⟩ => ⟨S_, .i32⟩
  | .hbm, ⟨20, _⟩ => ⟨S_, .f32⟩
  | .hbm, ⟨21, _⟩ => ⟨S30x936, .f32⟩
  | .hbm, ⟨22, _⟩ => ⟨S_, .i32⟩
  | .hbm, ⟨23, _⟩ => ⟨S_, .f32⟩
  | .hbm, ⟨24, _⟩ => ⟨S100x936, .f32⟩
  | .hbm, ⟨25, _⟩ => ⟨S330x936, .f32⟩
  | .hbm, ⟨26, _⟩ => ⟨S200x32x32, .f32⟩
  | .local _ .vmem, ⟨0, _⟩ => ⟨S2x128x128, .f32⟩
  | .local _ .vmem, ⟨1, _⟩ => ⟨S330x936, .f32⟩
  | .local _ .vmem, ⟨2, _⟩ => ⟨S200x32x32, .f32⟩
  | _, _ => ⟨S2x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_c_3 : Ref sig .tc := ⟨.hbm, 22, rfl⟩
abbrev main_call4_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S330x936 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x128x128 : Shape := ⟨3, ![2, 128, 128]⟩
abbrev S30x2x5x5 : Shape := ⟨4, ![30, 2, 5, 5]⟩
abbrev S100x30x3x3 : Shape := ⟨4, ![100, 30, 3, 3]⟩
abbrev S200x100x3x3 : Shape := ⟨4, ![200, 100, 3, 3]⟩
abbrev S_ : Shape := ⟨0, ![]⟩
abbrev S2x132x132 : Shape := ⟨3, ![2, 132, 132]⟩
abbrev S30x128x128 : Shape := ⟨3, ![30, 128, 128]⟩
abbrev S30x2x1x1 : Shape := ⟨4, ![30, 2, 1, 1]⟩
abbrev S30x2 : Shape := ⟨2, ![30, 2]⟩
abbrev S128x128 : Shape := ⟨2, ![128, 128]⟩
abbrev S1x128x128 : Shape := ⟨3, ![1, 128, 128]⟩
abbrev S128x128x30 : Shape := ⟨3, ![128, 128, 30]⟩
abbrev S128x128x1 : Shape := ⟨3, ![128, 128, 1]⟩
abbrev S1x1x30 : Shape := ⟨3, ![1, 1, 30]⟩
abbrev S30x64x64 : Shape := ⟨3, ![30, 64, 64]⟩
abbrev S30x66x66 : Shape := ⟨3, ![30, 66, 66]⟩
abbrev S100x64x64 : Shape := ⟨3, ![100, 64, 64]⟩
abbrev S100x30x1x1 : Shape := ⟨4, ![100, 30, 1, 1]⟩
abbrev S100x30 : Shape := ⟨2, ![100, 30]⟩
abbrev S64x64 : Shape := ⟨2, ![64, 64]⟩
abbrev S1x64x64 : Shape := ⟨3, ![1, 64, 64]⟩
abbrev S64x64x100 : Shape := ⟨3, ![64, 64, 100]⟩
abbrev S64x64x1 : Shape := ⟨3, ![64, 64, 1]⟩
abbrev S1x1x100 : Shape := ⟨3, ![1, 1, 100]⟩
abbrev S100x32x32 : Shape := ⟨3, ![100, 32, 32]⟩
abbrev S100x34x34 : Shape := ⟨3, ![100, 34, 34]⟩
abbrev S200x32x32 : Shape := ⟨3, ![200, 32, 32]⟩
abbrev S200x100x1x1 : Shape := ⟨4, ![200, 100, 1, 1]⟩
abbrev S200x100 : Shape := ⟨2, ![200, 100]⟩
abbrev S32x32 : Shape := ⟨2, ![32, 32]⟩
abbrev S1x32x32 : Shape := ⟨3, ![1, 32, 32]⟩
abbrev S32x32x200 : Shape := ⟨3, ![32, 32, 200]⟩
abbrev S32x32x1 : Shape := ⟨3, ![32, 32, 1]⟩
abbrev S1x1x200 : Shape := ⟨3, ![1, 1, 200]⟩

abbrev nBuf : Space → Nat
  | .hbm => 605
  | .vmem => 0
  | .smem => 0
  | _ => 0

abbrev hbmTy0_0 (i : Nat) : BufTy := match i % 128 with
  | 0 => ⟨S2x128x128, .f32⟩
  | 1 => ⟨S30x2x5x5, .f32⟩
  | 2 => ⟨S100x30x3x3, .f32⟩
  | 3 => ⟨S200x100x3x3, .f32⟩
  | 4 => ⟨S_, .f32⟩
  | 5 => ⟨S2x128x128, .f32⟩
  | 6 => ⟨S2x128x128, .i1⟩
  | 7 => ⟨S2x128x128, .f32⟩
  | 8 => ⟨S_, .i32⟩
  | 9 => ⟨S_, .f32⟩
  | 10 => ⟨S2x132x132, .f32⟩
  | 11 => ⟨S_, .f32⟩
  | 12 => ⟨S30x128x128, .f32⟩
  | 13 => ⟨S30x2x1x1, .f32⟩
  | 14 => ⟨S30x2, .f32⟩
  | 15 => ⟨S2x128x128, .f32⟩
  | 16 => ⟨S30x128x128, .f32⟩
  | 17 => ⟨S30x128x128, .f32⟩
  | 18 => ⟨S30x2x1x1, .f32⟩
  | 19 => ⟨S30x2, .f32⟩
  | 20 => ⟨S2x128x128, .f32⟩
  | 21 => ⟨S30x128x128, .f32⟩
  | 22 => ⟨S30x128x128, .f32⟩
  | 23 => ⟨S30x2x1x1, .f32⟩
  | 24 => ⟨S30x2, .f32⟩
  | 25 => ⟨S2x128x128, .f32⟩
  | 26 => ⟨S30x128x128, .f32⟩
  | 27 => ⟨S30x128x128, .f32⟩
  | 28 => ⟨S30x2x1x1, .f32⟩
  | 29 => ⟨S30x2, .f32⟩
  | 30 => ⟨S2x128x128, .f32⟩
  | 31 => ⟨S30x128x128, .f32⟩
  | 32 => ⟨S30x128x128, .f32⟩
  | 33 => ⟨S30x2x1x1, .f32⟩
  | 34 => ⟨S30x2, .f32⟩
  | 35 => ⟨S2x128x128, .f32⟩
  | 36 => ⟨S30x128x128, .f32⟩
  | 37 => ⟨S30x128x128, .f32⟩
  | 38 => ⟨S30x2x1x1, .f32⟩
  | 39 => ⟨S30x2, .f32⟩
  | 40 => ⟨S2x128x128, .f32⟩
  | 41 => ⟨S30x128x128, .f32⟩
  | 42 => ⟨S30x128x128, .f32⟩
  | 43 => ⟨S30x2x1x1, .f32⟩
  | 44 => ⟨S30x2, .f32⟩
  | 45 => ⟨S2x128x128, .f32⟩
  | 46 => ⟨S30x128x128, .f32⟩
  | 47 => ⟨S30x128x128, .f32⟩
  | 48 => ⟨S30x2x1x1, .f32⟩
  | 49 => ⟨S30x2, .f32⟩
  | 50 => ⟨S2x128x128, .f32⟩
  | 51 => ⟨S30x128x128, .f32⟩
  | 52 => ⟨S30x128x128, .f32⟩
  | 53 => ⟨S30x2x1x1, .f32⟩
  | 54 => ⟨S30x2, .f32⟩
  | 55 => ⟨S2x128x128, .f32⟩
  | 56 => ⟨S30x128x128, .f32⟩
  | 57 => ⟨S30x128x128, .f32⟩
  | 58 => ⟨S30x2x1x1, .f32⟩
  | 59 => ⟨S30x2, .f32⟩
  | 60 => ⟨S2x128x128, .f32⟩
  | 61 => ⟨S30x128x128, .f32⟩
  | 62 => ⟨S30x128x128, .f32⟩
  | 63 => ⟨S30x2x1x1, .f32⟩
  | 64 => ⟨S30x2, .f32⟩
  | 65 => ⟨S2x128x128, .f32⟩
  | 66 => ⟨S30x128x128, .f32⟩
  | 67 => ⟨S30x128x128, .f32⟩
  | 68 => ⟨S30x2x1x1, .f32⟩
  | 69 => ⟨S30x2, .f32⟩
  | 70 => ⟨S2x128x128, .f32⟩
  | 71 => ⟨S30x128x128, .f32⟩
  | 72 => ⟨S30x128x128, .f32⟩
  | 73 => ⟨S30x2x1x1, .f32⟩
  | 74 => ⟨S30x2, .f32⟩
  | 75 => ⟨S2x128x128, .f32⟩
  | 76 => ⟨S30x128x128, .f32⟩
  | 77 => ⟨S30x128x128, .f32⟩
  | 78 => ⟨S30x2x1x1, .f32⟩
  | 79 => ⟨S30x2, .f32⟩
  | 80 => ⟨S2x128x128, .f32⟩
  | 81 => ⟨S30x128x128, .f32⟩
  | 82 => ⟨S30x128x128, .f32⟩
  | 83 => ⟨S30x2x1x1, .f32⟩
  | 84 => ⟨S30x2, .f32⟩
  | 85 => ⟨S2x128x128, .f32⟩
  | 86 => ⟨S30x128x128, .f32⟩
  | 87 => ⟨S30x128x128, .f32⟩
  | 88 => ⟨S30x2x1x1, .f32⟩
  | 89 => ⟨S30x2, .f32⟩
  | 90 => ⟨S2x128x128, .f32⟩
  | 91 => ⟨S30x128x128, .f32⟩
  | 92 => ⟨S30x128x128, .f32⟩
  | 93 => ⟨S30x2x1x1, .f32⟩
  | 94 => ⟨S30x2, .f32⟩
  | 95 => ⟨S2x128x128, .f32⟩
  | 96 => ⟨S30x128x128, .f32⟩
  | 97 => ⟨S30x128x128, .f32⟩
  | 98 => ⟨S30x2x1x1, .f32⟩
  | 99 => ⟨S30x2, .f32⟩
  | 100 => ⟨S2x128x128, .f32⟩
  | 101 => ⟨S30x128x128, .f32⟩
  | 102 => ⟨S30x128x128, .f32⟩
  | 103 => ⟨S30x2x1x1, .f32⟩
  | 104 => ⟨S30x2, .f32⟩
  | 105 => ⟨S2x128x128, .f32⟩
  | 106 => ⟨S30x128x128, .f32⟩
  | 107 => ⟨S30x128x128, .f32⟩
  | 108 => ⟨S30x2x1x1, .f32⟩
  | 109 => ⟨S30x2, .f32⟩
  | 110 => ⟨S2x128x128, .f32⟩
  | 111 => ⟨S30x128x128, .f32⟩
  | 112 => ⟨S30x128x128, .f32⟩
  | 113 => ⟨S30x2x1x1, .f32⟩
  | 114 => ⟨S30x2, .f32⟩
  | 115 => ⟨S2x128x128, .f32⟩
  | 116 => ⟨S30x128x128, .f32⟩
  | 117 => ⟨S30x128x128, .f32⟩
  | 118 => ⟨S30x2x1x1, .f32⟩
  | 119 => ⟨S30x2, .f32⟩
  | 120 => ⟨S2x128x128, .f32⟩
  | 121 => ⟨S30x128x128, .f32⟩
  | 122 => ⟨S30x128x128, .f32⟩
  | 123 => ⟨S30x2x1x1, .f32⟩
  | 124 => ⟨S30x2, .f32⟩
  | 125 => ⟨S2x128x128, .f32⟩
  | 126 => ⟨S30x128x128, .f32⟩
  | 127 => ⟨S30x128x128, .f32⟩
  | _ => ⟨S2x128x128, .f32⟩

abbrev hbmTy0_1 (i : Nat) : BufTy := match i % 128 with
  | 0 => ⟨S30x2x1x1, .f32⟩
  | 1 => ⟨S30x2, .f32⟩
  | 2 => ⟨S2x128x128, .f32⟩
  | 3 => ⟨S30x128x128, .f32⟩
  | 4 => ⟨S30x128x128, .f32⟩
  | 5 => ⟨S30x2x1x1, .f32⟩
  | 6 => ⟨S30x2, .f32⟩
  | 7 => ⟨S2x128x128, .f32⟩
  | 8 => ⟨S30x128x128, .f32⟩
  | 9 => ⟨S30x128x128, .f32⟩
  | 10 => ⟨S_, .f32⟩
  | 11 => ⟨S30x128x128, .f32⟩
  | 12 => ⟨S30x128x128, .i1⟩
  | 13 => ⟨S_, .i1⟩
  | 14 => ⟨S128x128, .i1⟩
  | 15 => ⟨S1x128x128, .i1⟩
  | 16 => ⟨S_, .f32⟩
  | 17 => ⟨S128x128, .f32⟩
  | 18 => ⟨S_, .f32⟩
  | 19 => ⟨S128x128, .f32⟩
  | 20 => ⟨S128x128, .f32⟩
  | 21 => ⟨S1x128x128, .f32⟩
  | 22 => ⟨S30x128x128, .f32⟩
  | 23 => ⟨S30x128x128, .f32⟩
  | 24 => ⟨S30x128x128, .f32⟩
  | 25 => ⟨S_, .f32⟩
  | 26 => ⟨S128x128, .f32⟩
  | 27 => ⟨S1x128x128, .f32⟩
  | 28 => ⟨S30x128x128, .f32⟩
  | 29 => ⟨S30x128x128, .f32⟩
  | 30 => ⟨S30x128x128, .i1⟩
  | 31 => ⟨S30x128x128, .f32⟩
  | 32 => ⟨S128x128x30, .f32⟩
  | 33 => ⟨S128x128x1, .f32⟩
  | 34 => ⟨S128x128x1, .i32⟩
  | 35 => ⟨S128x128, .i32⟩
  | 36 => ⟨S128x128x1, .i32⟩
  | 37 => ⟨S1x1x30, .i32⟩
  | 38 => ⟨S128x128x30, .i32⟩
  | 39 => ⟨S128x128x30, .i32⟩
  | 40 => ⟨S128x128x30, .i1⟩
  | 41 => ⟨S128x128x30, .f32⟩
  | 42 => ⟨S30x128x128, .f32⟩
  | 43 => ⟨S1x128x128, .f32⟩
  | 44 => ⟨S30x128x128, .f32⟩
  | 45 => ⟨S30x128x128, .f32⟩
  | 46 => ⟨S_, .i32⟩
  | 47 => ⟨S_, .f32⟩
  | 48 => ⟨S2x132x132, .f32⟩
  | 49 => ⟨S_, .f32⟩
  | 50 => ⟨S30x128x128, .f32⟩
  | 51 => ⟨S30x2x1x1, .f32⟩
  | 52 => ⟨S30x2, .f32⟩
  | 53 => ⟨S2x128x128, .f32⟩
  | 54 => ⟨S30x128x128, .f32⟩
  | 55 => ⟨S30x128x128, .f32⟩
  | 56 => ⟨S30x2x1x1, .f32⟩
  | 57 => ⟨S30x2, .f32⟩
  | 58 => ⟨S2x128x128, .f32⟩
  | 59 => ⟨S30x128x128, .f32⟩
  | 60 => ⟨S30x128x128, .f32⟩
  | 61 => ⟨S30x2x1x1, .f32⟩
  | 62 => ⟨S30x2, .f32⟩
  | 63 => ⟨S2x128x128, .f32⟩
  | 64 => ⟨S30x128x128, .f32⟩
  | 65 => ⟨S30x128x128, .f32⟩
  | 66 => ⟨S30x2x1x1, .f32⟩
  | 67 => ⟨S30x2, .f32⟩
  | 68 => ⟨S2x128x128, .f32⟩
  | 69 => ⟨S30x128x128, .f32⟩
  | 70 => ⟨S30x128x128, .f32⟩
  | 71 => ⟨S30x2x1x1, .f32⟩
  | 72 => ⟨S30x2, .f32⟩
  | 73 => ⟨S2x128x128, .f32⟩
  | 74 => ⟨S30x128x128, .f32⟩
  | 75 => ⟨S30x128x128, .f32⟩
  | 76 => ⟨S30x2x1x1, .f32⟩
  | 77 => ⟨S30x2, .f32⟩
  | 78 => ⟨S2x128x128, .f32⟩
  | 79 => ⟨S30x128x128, .f32⟩
  | 80 => ⟨S30x128x128, .f32⟩
  | 81 => ⟨S30x2x1x1, .f32⟩
  | 82 => ⟨S30x2, .f32⟩
  | 83 => ⟨S2x128x128, .f32⟩
  | 84 => ⟨S30x128x128, .f32⟩
  | 85 => ⟨S30x128x128, .f32⟩
  | 86 => ⟨S30x2x1x1, .f32⟩
  | 87 => ⟨S30x2, .f32⟩
  | 88 => ⟨S2x128x128, .f32⟩
  | 89 => ⟨S30x128x128, .f32⟩
  | 90 => ⟨S30x128x128, .f32⟩
  | 91 => ⟨S30x2x1x1, .f32⟩
  | 92 => ⟨S30x2, .f32⟩
  | 93 => ⟨S2x128x128, .f32⟩
  | 94 => ⟨S30x128x128, .f32⟩
  | 95 => ⟨S30x128x128, .f32⟩
  | 96 => ⟨S30x2x1x1, .f32⟩
  | 97 => ⟨S30x2, .f32⟩
  | 98 => ⟨S2x128x128, .f32⟩
  | 99 => ⟨S30x128x128, .f32⟩
  | 100 => ⟨S30x128x128, .f32⟩
  | 101 => ⟨S30x2x1x1, .f32⟩
  | 102 => ⟨S30x2, .f32⟩
  | 103 => ⟨S2x128x128, .f32⟩
  | 104 => ⟨S30x128x128, .f32⟩
  | 105 => ⟨S30x128x128, .f32⟩
  | 106 => ⟨S30x2x1x1, .f32⟩
  | 107 => ⟨S30x2, .f32⟩
  | 108 => ⟨S2x128x128, .f32⟩
  | 109 => ⟨S30x128x128, .f32⟩
  | 110 => ⟨S30x128x128, .f32⟩
  | 111 => ⟨S30x2x1x1, .f32⟩
  | 112 => ⟨S30x2, .f32⟩
  | 113 => ⟨S2x128x128, .f32⟩
  | 114 => ⟨S30x128x128, .f32⟩
  | 115 => ⟨S30x128x128, .f32⟩
  | 116 => ⟨S30x2x1x1, .f32⟩
  | 117 => ⟨S30x2, .f32⟩
  | 118 => ⟨S2x128x128, .f32⟩
  | 119 => ⟨S30x128x128, .f32⟩
  | 120 => ⟨S30x128x128, .f32⟩
  | 121 => ⟨S30x2x1x1, .f32⟩
  | 122 => ⟨S30x2, .f32⟩
  | 123 => ⟨S2x128x128, .f32⟩
  | 124 => ⟨S30x128x128, .f32⟩
  | 125 => ⟨S30x128x128, .f32⟩
  | 126 => ⟨S30x2x1x1, .f32⟩
  | 127 => ⟨S30x2, .f32⟩
  | _ => ⟨S2x128x128, .f32⟩

abbrev hbmTy0_2 (i : Nat) : BufTy := match i % 128 with
  | 0 => ⟨S2x128x128, .f32⟩
  | 1 => ⟨S30x128x128, .f32⟩
  | 2 => ⟨S30x128x128, .f32⟩
  | 3 => ⟨S30x2x1x1, .f32⟩
  | 4 => ⟨S30x2, .f32⟩
  | 5 => ⟨S2x128x128, .f32⟩
  | 6 => ⟨S30x128x128, .f32⟩
  | 7 => ⟨S30x128x128, .f32⟩
  | 8 => ⟨S30x2x1x1, .f32⟩
  | 9 => ⟨S30x2, .f32⟩
  | 10 => ⟨S2x128x128, .f32⟩
  | 11 => ⟨S30x128x128, .f32⟩
  | 12 => ⟨S30x128x128, .f32⟩
  | 13 => ⟨S30x2x1x1, .f32⟩
  | 14 => ⟨S30x2, .f32⟩
  | 15 => ⟨S2x128x128, .f32⟩
  | 16 => ⟨S30x128x128, .f32⟩
  | 17 => ⟨S30x128x128, .f32⟩
  | 18 => ⟨S30x2x1x1, .f32⟩
  | 19 => ⟨S30x2, .f32⟩
  | 20 => ⟨S2x128x128, .f32⟩
  | 21 => ⟨S30x128x128, .f32⟩
  | 22 => ⟨S30x128x128, .f32⟩
  | 23 => ⟨S30x2x1x1, .f32⟩
  | 24 => ⟨S30x2, .f32⟩
  | 25 => ⟨S2x128x128, .f32⟩
  | 26 => ⟨S30x128x128, .f32⟩
  | 27 => ⟨S30x128x128, .f32⟩
  | 28 => ⟨S30x2x1x1, .f32⟩
  | 29 => ⟨S30x2, .f32⟩
  | 30 => ⟨S2x128x128, .f32⟩
  | 31 => ⟨S30x128x128, .f32⟩
  | 32 => ⟨S30x128x128, .f32⟩
  | 33 => ⟨S30x2x1x1, .f32⟩
  | 34 => ⟨S30x2, .f32⟩
  | 35 => ⟨S2x128x128, .f32⟩
  | 36 => ⟨S30x128x128, .f32⟩
  | 37 => ⟨S30x128x128, .f32⟩
  | 38 => ⟨S30x2x1x1, .f32⟩
  | 39 => ⟨S30x2, .f32⟩
  | 40 => ⟨S2x128x128, .f32⟩
  | 41 => ⟨S30x128x128, .f32⟩
  | 42 => ⟨S30x128x128, .f32⟩
  | 43 => ⟨S30x2x1x1, .f32⟩
  | 44 => ⟨S30x2, .f32⟩
  | 45 => ⟨S2x128x128, .f32⟩
  | 46 => ⟨S30x128x128, .f32⟩
  | 47 => ⟨S30x128x128, .f32⟩
  | 48 => ⟨S_, .f32⟩
  | 49 => ⟨S30x128x128, .f32⟩
  | 50 => ⟨S30x128x128, .f32⟩
  | 51 => ⟨S30x128x128, .f32⟩
  | 52 => ⟨S30x128x128, .f32⟩
  | 53 => ⟨S_, .f32⟩
  | 54 => ⟨S_, .f32⟩
  | 55 => ⟨S30x64x64, .f32⟩
  | 56 => ⟨S_, .f32⟩
  | 57 => ⟨S30x64x64, .f32⟩
  | 58 => ⟨S30x64x64, .i1⟩
  | 59 => ⟨S30x64x64, .f32⟩
  | 60 => ⟨S_, .i32⟩
  | 61 => ⟨S_, .f32⟩
  | 62 => ⟨S30x66x66, .f32⟩
  | 63 => ⟨S_, .f32⟩
  | 64 => ⟨S100x64x64, .f32⟩
  | 65 => ⟨S100x30x1x1, .f32⟩
  | 66 => ⟨S100x30, .f32⟩
  | 67 => ⟨S30x64x64, .f32⟩
  | 68 => ⟨S100x64x64, .f32⟩
  | 69 => ⟨S100x64x64, .f32⟩
  | 70 => ⟨S100x30x1x1, .f32⟩
  | 71 => ⟨S100x30, .f32⟩
  | 72 => ⟨S30x64x64, .f32⟩
  | 73 => ⟨S100x64x64, .f32⟩
  | 74 => ⟨S100x64x64, .f32⟩
  | 75 => ⟨S100x30x1x1, .f32⟩
  | 76 => ⟨S100x30, .f32⟩
  | 77 => ⟨S30x64x64, .f32⟩
  | 78 => ⟨S100x64x64, .f32⟩
  | 79 => ⟨S100x64x64, .f32⟩
  | 80 => ⟨S100x30x1x1, .f32⟩
  | 81 => ⟨S100x30, .f32⟩
  | 82 => ⟨S30x64x64, .f32⟩
  | 83 => ⟨S100x64x64, .f32⟩
  | 84 => ⟨S100x64x64, .f32⟩
  | 85 => ⟨S100x30x1x1, .f32⟩
  | 86 => ⟨S100x30, .f32⟩
  | 87 => ⟨S30x64x64, .f32⟩
  | 88 => ⟨S100x64x64, .f32⟩
  | 89 => ⟨S100x64x64, .f32⟩
  | 90 => ⟨S100x30x1x1, .f32⟩
  | 91 => ⟨S100x30, .f32⟩
  | 92 => ⟨S30x64x64, .f32⟩
  | 93 => ⟨S100x64x64, .f32⟩
  | 94 => ⟨S100x64x64, .f32⟩
  | 95 => ⟨S100x30x1x1, .f32⟩
  | 96 => ⟨S100x30, .f32⟩
  | 97 => ⟨S30x64x64, .f32⟩
  | 98 => ⟨S100x64x64, .f32⟩
  | 99 => ⟨S100x64x64, .f32⟩
  | 100 => ⟨S100x30x1x1, .f32⟩
  | 101 => ⟨S100x30, .f32⟩
  | 102 => ⟨S30x64x64, .f32⟩
  | 103 => ⟨S100x64x64, .f32⟩
  | 104 => ⟨S100x64x64, .f32⟩
  | 105 => ⟨S100x30x1x1, .f32⟩
  | 106 => ⟨S100x30, .f32⟩
  | 107 => ⟨S30x64x64, .f32⟩
  | 108 => ⟨S100x64x64, .f32⟩
  | 109 => ⟨S100x64x64, .f32⟩
  | 110 => ⟨S_, .f32⟩
  | 111 => ⟨S100x64x64, .f32⟩
  | 112 => ⟨S100x64x64, .i1⟩
  | 113 => ⟨S_, .i1⟩
  | 114 => ⟨S64x64, .i1⟩
  | 115 => ⟨S1x64x64, .i1⟩
  | 116 => ⟨S_, .f32⟩
  | 117 => ⟨S64x64, .f32⟩
  | 118 => ⟨S_, .f32⟩
  | 119 => ⟨S64x64, .f32⟩
  | 120 => ⟨S64x64, .f32⟩
  | 121 => ⟨S1x64x64, .f32⟩
  | 122 => ⟨S100x64x64, .f32⟩
  | 123 => ⟨S100x64x64, .f32⟩
  | 124 => ⟨S100x64x64, .f32⟩
  | 125 => ⟨S_, .f32⟩
  | 126 => ⟨S64x64, .f32⟩
  | 127 => ⟨S1x64x64, .f32⟩
  | _ => ⟨S2x128x128, .f32⟩

abbrev hbmTy0_3 (i : Nat) : BufTy := match i % 128 with
  | 0 => ⟨S100x64x64, .f32⟩
  | 1 => ⟨S100x64x64, .f32⟩
  | 2 => ⟨S100x64x64, .i1⟩
  | 3 => ⟨S100x64x64, .f32⟩
  | 4 => ⟨S64x64x100, .f32⟩
  | 5 => ⟨S64x64x1, .f32⟩
  | 6 => ⟨S64x64x1, .i32⟩
  | 7 => ⟨S64x64, .i32⟩
  | 8 => ⟨S64x64x1, .i32⟩
  | 9 => ⟨S1x1x100, .i32⟩
  | 10 => ⟨S64x64x100, .i32⟩
  | 11 => ⟨S64x64x100, .i32⟩
  | 12 => ⟨S64x64x100, .i1⟩
  | 13 => ⟨S64x64x100, .f32⟩
  | 14 => ⟨S100x64x64, .f32⟩
  | 15 => ⟨S1x64x64, .f32⟩
  | 16 => ⟨S100x64x64, .f32⟩
  | 17 => ⟨S100x64x64, .f32⟩
  | 18 => ⟨S_, .i32⟩
  | 19 => ⟨S_, .f32⟩
  | 20 => ⟨S30x66x66, .f32⟩
  | 21 => ⟨S_, .f32⟩
  | 22 => ⟨S100x64x64, .f32⟩
  | 23 => ⟨S100x30x1x1, .f32⟩
  | 24 => ⟨S100x30, .f32⟩
  | 25 => ⟨S30x64x64, .f32⟩
  | 26 => ⟨S100x64x64, .f32⟩
  | 27 => ⟨S100x64x64, .f32⟩
  | 28 => ⟨S100x30x1x1, .f32⟩
  | 29 => ⟨S100x30, .f32⟩
  | 30 => ⟨S30x64x64, .f32⟩
  | 31 => ⟨S100x64x64, .f32⟩
  | 32 => ⟨S100x64x64, .f32⟩
  | 33 => ⟨S100x30x1x1, .f32⟩
  | 34 => ⟨S100x30, .f32⟩
  | 35 => ⟨S30x64x64, .f32⟩
  | 36 => ⟨S100x64x64, .f32⟩
  | 37 => ⟨S100x64x64, .f32⟩
  | 38 => ⟨S100x30x1x1, .f32⟩
  | 39 => ⟨S100x30, .f32⟩
  | 40 => ⟨S30x64x64, .f32⟩
  | 41 => ⟨S100x64x64, .f32⟩
  | 42 => ⟨S100x64x64, .f32⟩
  | 43 => ⟨S100x30x1x1, .f32⟩
  | 44 => ⟨S100x30, .f32⟩
  | 45 => ⟨S30x64x64, .f32⟩
  | 46 => ⟨S100x64x64, .f32⟩
  | 47 => ⟨S100x64x64, .f32⟩
  | 48 => ⟨S100x30x1x1, .f32⟩
  | 49 => ⟨S100x30, .f32⟩
  | 50 => ⟨S30x64x64, .f32⟩
  | 51 => ⟨S100x64x64, .f32⟩
  | 52 => ⟨S100x64x64, .f32⟩
  | 53 => ⟨S100x30x1x1, .f32⟩
  | 54 => ⟨S100x30, .f32⟩
  | 55 => ⟨S30x64x64, .f32⟩
  | 56 => ⟨S100x64x64, .f32⟩
  | 57 => ⟨S100x64x64, .f32⟩
  | 58 => ⟨S100x30x1x1, .f32⟩
  | 59 => ⟨S100x30, .f32⟩
  | 60 => ⟨S30x64x64, .f32⟩
  | 61 => ⟨S100x64x64, .f32⟩
  | 62 => ⟨S100x64x64, .f32⟩
  | 63 => ⟨S100x30x1x1, .f32⟩
  | 64 => ⟨S100x30, .f32⟩
  | 65 => ⟨S30x64x64, .f32⟩
  | 66 => ⟨S100x64x64, .f32⟩
  | 67 => ⟨S100x64x64, .f32⟩
  | 68 => ⟨S_, .f32⟩
  | 69 => ⟨S100x64x64, .f32⟩
  | 70 => ⟨S100x64x64, .f32⟩
  | 71 => ⟨S100x64x64, .f32⟩
  | 72 => ⟨S100x64x64, .f32⟩
  | 73 => ⟨S_, .f32⟩
  | 74 => ⟨S_, .f32⟩
  | 75 => ⟨S100x32x32, .f32⟩
  | 76 => ⟨S_, .f32⟩
  | 77 => ⟨S100x32x32, .f32⟩
  | 78 => ⟨S100x32x32, .i1⟩
  | 79 => ⟨S100x32x32, .f32⟩
  | 80 => ⟨S_, .i32⟩
  | 81 => ⟨S_, .f32⟩
  | 82 => ⟨S100x34x34, .f32⟩
  | 83 => ⟨S_, .f32⟩
  | 84 => ⟨S200x32x32, .f32⟩
  | 85 => ⟨S200x100x1x1, .f32⟩
  | 86 => ⟨S200x100, .f32⟩
  | 87 => ⟨S100x32x32, .f32⟩
  | 88 => ⟨S200x32x32, .f32⟩
  | 89 => ⟨S200x32x32, .f32⟩
  | 90 => ⟨S200x100x1x1, .f32⟩
  | 91 => ⟨S200x100, .f32⟩
  | 92 => ⟨S100x32x32, .f32⟩
  | 93 => ⟨S200x32x32, .f32⟩
  | 94 => ⟨S200x32x32, .f32⟩
  | 95 => ⟨S200x100x1x1, .f32⟩
  | 96 => ⟨S200x100, .f32⟩
  | 97 => ⟨S100x32x32, .f32⟩
  | 98 => ⟨S200x32x32, .f32⟩
  | 99 => ⟨S200x32x32, .f32⟩
  | 100 => ⟨S200x100x1x1, .f32⟩
  | 101 => ⟨S200x100, .f32⟩
  | 102 => ⟨S100x32x32, .f32⟩
  | 103 => ⟨S200x32x32, .f32⟩
  | 104 => ⟨S200x32x32, .f32⟩
  | 105 => ⟨S200x100x1x1, .f32⟩
  | 106 => ⟨S200x100, .f32⟩
  | 107 => ⟨S100x32x32, .f32⟩
  | 108 => ⟨S200x32x32, .f32⟩
  | 109 => ⟨S200x32x32, .f32⟩
  | 110 => ⟨S200x100x1x1, .f32⟩
  | 111 => ⟨S200x100, .f32⟩
  | 112 => ⟨S100x32x32, .f32⟩
  | 113 => ⟨S200x32x32, .f32⟩
  | 114 => ⟨S200x32x32, .f32⟩
  | 115 => ⟨S200x100x1x1, .f32⟩
  | 116 => ⟨S200x100, .f32⟩
  | 117 => ⟨S100x32x32, .f32⟩
  | 118 => ⟨S200x32x32, .f32⟩
  | 119 => ⟨S200x32x32, .f32⟩
  | 120 => ⟨S200x100x1x1, .f32⟩
  | 121 => ⟨S200x100, .f32⟩
  | 122 => ⟨S100x32x32, .f32⟩
  | 123 => ⟨S200x32x32, .f32⟩
  | 124 => ⟨S200x32x32, .f32⟩
  | 125 => ⟨S200x100x1x1, .f32⟩
  | 126 => ⟨S200x100, .f32⟩
  | 127 => ⟨S100x32x32, .f32⟩
  | _ => ⟨S2x128x128, .f32⟩

abbrev hbmTy0_4 (i : Nat) : BufTy := match i % 128 with
  | 0 => ⟨S200x32x32, .f32⟩
  | 1 => ⟨S200x32x32, .f32⟩
  | 2 => ⟨S_, .f32⟩
  | 3 => ⟨S200x32x32, .f32⟩
  | 4 => ⟨S200x32x32, .i1⟩
  | 5 => ⟨S_, .i1⟩
  | 6 => ⟨S32x32, .i1⟩
  | 7 => ⟨S1x32x32, .i1⟩
  | 8 => ⟨S_, .f32⟩
  | 9 => ⟨S32x32, .f32⟩
  | 10 => ⟨S_, .f32⟩
  | 11 => ⟨S32x32, .f32⟩
  | 12 => ⟨S32x32, .f32⟩
  | 13 => ⟨S1x32x32, .f32⟩
  | 14 => ⟨S200x32x32, .f32⟩
  | 15 => ⟨S200x32x32, .f32⟩
  | 16 => ⟨S200x32x32, .f32⟩
  | 17 => ⟨S_, .f32⟩
  | 18 => ⟨S32x32, .f32⟩
  | 19 => ⟨S1x32x32, .f32⟩
  | 20 => ⟨S200x32x32, .f32⟩
  | 21 => ⟨S200x32x32, .f32⟩
  | 22 => ⟨S200x32x32, .i1⟩
  | 23 => ⟨S200x32x32, .f32⟩
  | 24 => ⟨S32x32x200, .f32⟩
  | 25 => ⟨S32x32x1, .f32⟩
  | 26 => ⟨S32x32x1, .i32⟩
  | 27 => ⟨S32x32, .i32⟩
  | 28 => ⟨S32x32x1, .i32⟩
  | 29 => ⟨S1x1x200, .i32⟩
  | 30 => ⟨S32x32x200, .i32⟩
  | 31 => ⟨S32x32x200, .i32⟩
  | 32 => ⟨S32x32x200, .i1⟩
  | 33 => ⟨S32x32x200, .f32⟩
  | 34 => ⟨S200x32x32, .f32⟩
  | 35 => ⟨S1x32x32, .f32⟩
  | 36 => ⟨S200x32x32, .f32⟩
  | 37 => ⟨S200x32x32, .f32⟩
  | 38 => ⟨S_, .i32⟩
  | 39 => ⟨S_, .f32⟩
  | 40 => ⟨S100x34x34, .f32⟩
  | 41 => ⟨S_, .f32⟩
  | 42 => ⟨S200x32x32, .f32⟩
  | 43 => ⟨S200x100x1x1, .f32⟩
  | 44 => ⟨S200x100, .f32⟩
  | 45 => ⟨S100x32x32, .f32⟩
  | 46 => ⟨S200x32x32, .f32⟩
  | 47 => ⟨S200x32x32, .f32⟩
  | 48 => ⟨S200x100x1x1, .f32⟩
  | 49 => ⟨S200x100, .f32⟩
  | 50 => ⟨S100x32x32, .f32⟩
  | 51 => ⟨S200x32x32, .f32⟩
  | 52 => ⟨S200x32x32, .f32⟩
  | 53 => ⟨S200x100x1x1, .f32⟩
  | 54 => ⟨S200x100, .f32⟩
  | 55 => ⟨S100x32x32, .f32⟩
  | 56 => ⟨S200x32x32, .f32⟩
  | 57 => ⟨S200x32x32, .f32⟩
  | 58 => ⟨S200x100x1x1, .f32⟩
  | 59 => ⟨S200x100, .f32⟩
  | 60 => ⟨S100x32x32, .f32⟩
  | 61 => ⟨S200x32x32, .f32⟩
  | 62 => ⟨S200x32x32, .f32⟩
  | 63 => ⟨S200x100x1x1, .f32⟩
  | 64 => ⟨S200x100, .f32⟩
  | 65 => ⟨S100x32x32, .f32⟩
  | 66 => ⟨S200x32x32, .f32⟩
  | 67 => ⟨S200x32x32, .f32⟩
  | 68 => ⟨S200x100x1x1, .f32⟩
  | 69 => ⟨S200x100, .f32⟩
  | 70 => ⟨S100x32x32, .f32⟩
  | 71 => ⟨S200x32x32, .f32⟩
  | 72 => ⟨S200x32x32, .f32⟩
  | 73 => ⟨S200x100x1x1, .f32⟩
  | 74 => ⟨S200x100, .f32⟩
  | 75 => ⟨S100x32x32, .f32⟩
  | 76 => ⟨S200x32x32, .f32⟩
  | 77 => ⟨S200x32x32, .f32⟩
  | 78 => ⟨S200x100x1x1, .f32⟩
  | 79 => ⟨S200x100, .f32⟩
  | 80 => ⟨S100x32x32, .f32⟩
  | 81 => ⟨S200x32x32, .f32⟩
  | 82 => ⟨S200x32x32, .f32⟩
  | 83 => ⟨S200x100x1x1, .f32⟩
  | 84 => ⟨S200x100, .f32⟩
  | 85 => ⟨S100x32x32, .f32⟩
  | 86 => ⟨S200x32x32, .f32⟩
  | 87 => ⟨S200x32x32, .f32⟩
  | 88 => ⟨S_, .f32⟩
  | 89 => ⟨S200x32x32, .f32⟩
  | 90 => ⟨S200x32x32, .f32⟩
  | 91 => ⟨S200x32x32, .f32⟩
  | 92 => ⟨S200x32x32, .f32⟩
  | _ => ⟨S2x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x128x128, .f32⟩

abbrev bufTy : (tb : Table) → Fin (tcTables nBuf tb) → BufTy
  | .hbm, ⟨i, _⟩ => hbmTy i
  | _, _ => ⟨S2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_cst_1 : Ref sig .tc := ⟨.hbm, 138, rfl⟩
abbrev main_v130 : Ref sig .tc := ⟨.hbm, 139, rfl⟩
abbrev main_v131 : Ref sig .tc := ⟨.hbm, 140, rfl⟩
abbrev main_c_2 : Ref sig .tc := ⟨.hbm, 141, rfl⟩
abbrev main_v132 : Ref sig .tc := ⟨.hbm, 142, rfl⟩
abbrev main_v133 : Ref sig .tc := ⟨.hbm, 143, rfl⟩
abbrev main_cst_3 : Ref sig .tc := ⟨.hbm, 144, rfl⟩
abbrev main_v134 : Ref sig .tc := ⟨.hbm, 145, rfl⟩
abbrev main_cst_4 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_cst_5 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_call1_v0 : Ref sig .tc := ⟨.hbm, 158, rfl⟩
abbrev main_v145 : Ref sig .tc := ⟨.hbm, 159, rfl⟩
abbrev main_v146 : Ref sig .tc := ⟨.hbm, 160, rfl⟩
abbrev main_values : Ref sig .tc := ⟨.hbm, 161, rfl⟩
abbrev main_indices : Ref sig .tc := ⟨.hbm, 162, rfl⟩
abbrev main_v147 : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_c_6 : Ref sig .tc := ⟨.hbm, 174, rfl⟩
abbrev main_call3_v0 : Ref sig .tc := ⟨.hbm, 175, rfl⟩
abbrev main_v153 : Ref sig .tc := ⟨.hbm, 176, rfl⟩
abbrev main_cst_7 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_cst_8 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_cst_9 : Ref sig .tc := ⟨.hbm, 309, rfl⟩
abbrev main_v284 : Ref sig .tc := ⟨.hbm, 310, rfl⟩
abbrev main_v285 : Ref sig .tc := ⟨.hbm, 311, rfl⟩
abbrev main_cst_10 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_c_11 : Ref sig .tc := ⟨.hbm, 316, rfl⟩
abbrev main_call4_v0 : Ref sig .tc := ⟨.hbm, 317, rfl⟩
abbrev main_v289 : Ref sig .tc := ⟨.hbm, 318, rfl⟩
abbrev main_cst_12 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩
abbrev main_v311 : Ref sig .tc := ⟨.hbm, 341, rfl⟩
abbrev main_v312 : Ref sig .tc := ⟨.hbm, 342, rfl⟩
abbrev main_v313 : Ref sig .tc := ⟨.hbm, 343, rfl⟩
abbrev main_v314 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_v322 : Ref sig .tc := ⟨.hbm, 352, rfl⟩
abbrev main_v323 : Ref sig .tc := ⟨.hbm, 353, rfl⟩
abbrev main_v324 : Ref sig .tc := ⟨.hbm, 354, rfl⟩
abbrev main_v325 : Ref sig .tc := ⟨.hbm, 355, rfl⟩
abbrev main_v326 : Ref sig .tc := ⟨.hbm, 356, rfl⟩
abbrev main_v327 : Ref sig .tc := ⟨.hbm, 357, rfl⟩
abbrev main_v328 : Ref sig .tc := ⟨.hbm, 358, rfl⟩
abbrev main_v329 : Ref sig .tc := ⟨.hbm, 359, rfl⟩
abbrev main_v330 : Ref sig .tc := ⟨.hbm, 360, rfl⟩
abbrev main_v331 : Ref sig .tc := ⟨.hbm, 361, rfl⟩
abbrev main_v332 : Ref sig .tc := ⟨.hbm, 362, rfl⟩
abbrev main_v333 : Ref sig .tc := ⟨.hbm, 363, rfl⟩
abbrev main_v334 : Ref sig .tc := ⟨.hbm, 364, rfl⟩
abbrev main_v335 : Ref sig .tc := ⟨.hbm, 365, rfl⟩
abbrev main_cst_13 : Ref sig .tc := ⟨.hbm, 366, rfl⟩
abbrev main_v336 : Ref sig .tc := ⟨.hbm, 367, rfl⟩
abbrev main_v337 : Ref sig .tc := ⟨.hbm, 368, rfl⟩
abbrev main_c_14 : Ref sig .tc := ⟨.hbm, 369, rfl⟩
abbrev main_v338 : Ref sig .tc := ⟨.hbm, 370, rfl⟩
abbrev main_v339 : Ref sig .tc := ⟨.hbm, 371, rfl⟩
abbrev main_cst_15 : Ref sig .tc := ⟨.hbm, 372, rfl⟩
abbrev main_v340 : Ref sig .tc := ⟨.hbm, 373, rfl⟩
abbrev main_cst_16 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_v346 : Ref sig .tc := ⟨.hbm, 380, rfl⟩
abbrev main_cst_17 : Ref sig .tc := ⟨.hbm, 381, rfl⟩
abbrev main_v347 : Ref sig .tc := ⟨.hbm, 382, rfl⟩
abbrev main_v348 : Ref sig .tc := ⟨.hbm, 383, rfl⟩
abbrev main_v349 : Ref sig .tc := ⟨.hbm, 384, rfl⟩
abbrev main_v350 : Ref sig .tc := ⟨.hbm, 385, rfl⟩
abbrev main_call5_v0 : Ref sig .tc := ⟨.hbm, 386, rfl⟩
abbrev main_v351 : Ref sig .tc := ⟨.hbm, 387, rfl⟩
abbrev main_v352 : Ref sig .tc := ⟨.hbm, 388, rfl⟩
abbrev main_values_18 : Ref sig .tc := ⟨.hbm, 389, rfl⟩
abbrev main_indices_19 : Ref sig .tc := ⟨.hbm, 390, rfl⟩
abbrev main_v353 : Ref sig .tc := ⟨.hbm, 391, rfl⟩
abbrev main_call6_v0 : Ref sig .tc := ⟨.hbm, 392, rfl⟩
abbrev main_call6_v1 : Ref sig .tc := ⟨.hbm, 393, rfl⟩
abbrev main_call6_v2 : Ref sig .tc := ⟨.hbm, 394, rfl⟩
abbrev main_call6_v3 : Ref sig .tc := ⟨.hbm, 395, rfl⟩
abbrev main_call6_v4 : Ref sig .tc := ⟨.hbm, 396, rfl⟩
abbrev main_v354 : Ref sig .tc := ⟨.hbm, 397, rfl⟩
abbrev main_v355 : Ref sig .tc := ⟨.hbm, 398, rfl⟩
abbrev main_v356 : Ref sig .tc := ⟨.hbm, 399, rfl⟩
abbrev main_v357 : Ref sig .tc := ⟨.hbm, 400, rfl⟩
abbrev main_v358 : Ref sig .tc := ⟨.hbm, 401, rfl⟩
abbrev main_c_20 : Ref sig .tc := ⟨.hbm, 402, rfl⟩
abbrev main_call7_v0 : Ref sig .tc := ⟨.hbm, 403, rfl⟩
abbrev main_v359 : Ref sig .tc := ⟨.hbm, 404, rfl⟩
abbrev main_cst_21 : Ref sig .tc := ⟨.hbm, 405, rfl⟩
abbrev main_v360 : Ref sig .tc := ⟨.hbm, 406, rfl⟩
abbrev main_v361 : Ref sig .tc := ⟨.hbm, 407, rfl⟩
abbrev main_v362 : Ref sig .tc := ⟨.hbm, 408, rfl⟩
abbrev main_v363 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_v368 : Ref sig .tc := ⟨.hbm, 414, rfl⟩
abbrev main_v369 : Ref sig .tc := ⟨.hbm, 415, rfl⟩
abbrev main_v370 : Ref sig .tc := ⟨.hbm, 416, rfl⟩
abbrev main_v371 : Ref sig .tc := ⟨.hbm, 417, rfl⟩
abbrev main_v372 : Ref sig .tc := ⟨.hbm, 418, rfl⟩
abbrev main_v373 : Ref sig .tc := ⟨.hbm, 419, rfl⟩
abbrev main_v374 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩
abbrev main_v378 : Ref sig .tc := ⟨.hbm, 424, rfl⟩
abbrev main_v379 : Ref sig .tc := ⟨.hbm, 425, rfl⟩
abbrev main_v380 : Ref sig .tc := ⟨.hbm, 426, rfl⟩
abbrev main_v381 : Ref sig .tc := ⟨.hbm, 427, rfl⟩
abbrev main_v382 : Ref sig .tc := ⟨.hbm, 428, rfl⟩
abbrev main_v383 : Ref sig .tc := ⟨.hbm, 429, rfl⟩
abbrev main_v384 : Ref sig .tc := ⟨.hbm, 430, rfl⟩
abbrev main_v385 : Ref sig .tc := ⟨.hbm, 431, rfl⟩
abbrev main_v386 : Ref sig .tc := ⟨.hbm, 432, rfl⟩
abbrev main_v387 : Ref sig .tc := ⟨.hbm, 433, rfl⟩
abbrev main_v388 : Ref sig .tc := ⟨.hbm, 434, rfl⟩
abbrev main_v389 : Ref sig .tc := ⟨.hbm, 435, rfl⟩
abbrev main_v390 : Ref sig .tc := ⟨.hbm, 436, rfl⟩
abbrev main_v391 : Ref sig .tc := ⟨.hbm, 437, rfl⟩
abbrev main_v392 : Ref sig .tc := ⟨.hbm, 438, rfl⟩
abbrev main_v393 : Ref sig .tc := ⟨.hbm, 439, rfl⟩
abbrev main_v394 : Ref sig .tc := ⟨.hbm, 440, rfl⟩
abbrev main_v395 : Ref sig .tc := ⟨.hbm, 441, rfl⟩
abbrev main_v396 : Ref sig .tc := ⟨.hbm, 442, rfl⟩
abbrev main_v397 : Ref sig .tc := ⟨.hbm, 443, rfl⟩
abbrev main_v398 : Ref sig .tc := ⟨.hbm, 444, rfl⟩
abbrev main_v399 : Ref sig .tc := ⟨.hbm, 445, rfl⟩
abbrev main_v400 : Ref sig .tc := ⟨.hbm, 446, rfl⟩
abbrev main_v401 : Ref sig .tc := ⟨.hbm, 447, rfl⟩
abbrev main_v402 : Ref sig .tc := ⟨.hbm, 448, rfl⟩
abbrev main_v403 : Ref sig .tc := ⟨.hbm, 449, rfl⟩
abbrev main_v404 : Ref sig .tc := ⟨.hbm, 450, rfl⟩
abbrev main_v405 : Ref sig .tc := ⟨.hbm, 451, rfl⟩
abbrev main_cst_22 : Ref sig .tc := ⟨.hbm, 452, rfl⟩
abbrev main_v406 : Ref sig .tc := ⟨.hbm, 453, rfl⟩
abbrev main_v407 : Ref sig .tc := ⟨.hbm, 454, rfl⟩
abbrev main_v408 : Ref sig .tc := ⟨.hbm, 455, rfl⟩
abbrev main_v409 : Ref sig .tc := ⟨.hbm, 456, rfl⟩
abbrev main_cst_23 : Ref sig .tc := ⟨.hbm, 457, rfl⟩
abbrev main_v410 : Ref sig .tc := ⟨.hbm, 458, rfl⟩
abbrev main_v411 : Ref sig .tc := ⟨.hbm, 459, rfl⟩
abbrev main_cst_24 : Ref sig .tc := ⟨.hbm, 460, rfl⟩
abbrev main_v412 : Ref sig .tc := ⟨.hbm, 461, rfl⟩
abbrev main_v413 : Ref sig .tc := ⟨.hbm, 462, rfl⟩
abbrev main_v414 : Ref sig .tc := ⟨.hbm, 463, rfl⟩
abbrev main_c_25 : Ref sig .tc := ⟨.hbm, 464, rfl⟩
abbrev main_call8_v0 : Ref sig .tc := ⟨.hbm, 465, rfl⟩
abbrev main_v415 : Ref sig .tc := ⟨.hbm, 466, rfl⟩
abbrev main_cst_26 : Ref sig .tc := ⟨.hbm, 467, rfl⟩
abbrev main_v416 : Ref sig .tc := ⟨.hbm, 468, rfl⟩
abbrev main_v417 : Ref sig .tc := ⟨.hbm, 469, rfl⟩
abbrev main_v418 : Ref sig .tc := ⟨.hbm, 470, rfl⟩
abbrev main_v419 : Ref sig .tc := ⟨.hbm, 471, rfl⟩
abbrev main_v420 : Ref sig .tc := ⟨.hbm, 472, rfl⟩
abbrev main_v421 : Ref sig .tc := ⟨.hbm, 473, rfl⟩
abbrev main_v422 : Ref sig .tc := ⟨.hbm, 474, rfl⟩
abbrev main_v423 : Ref sig .tc := ⟨.hbm, 475, rfl⟩
abbrev main_v424 : Ref sig .tc := ⟨.hbm, 476, rfl⟩
abbrev main_v425 : Ref sig .tc := ⟨.hbm, 477, rfl⟩
abbrev main_v426 : Ref sig .tc := ⟨.hbm, 478, rfl⟩
abbrev main_v427 : Ref sig .tc := ⟨.hbm, 479, rfl⟩
abbrev main_v428 : Ref sig .tc := ⟨.hbm, 480, rfl⟩
abbrev main_v429 : Ref sig .tc := ⟨.hbm, 481, rfl⟩
abbrev main_v430 : Ref sig .tc := ⟨.hbm, 482, rfl⟩
abbrev main_v431 : Ref sig .tc := ⟨.hbm, 483, rfl⟩
abbrev main_v432 : Ref sig .tc := ⟨.hbm, 484, rfl⟩
abbrev main_v433 : Ref sig .tc := ⟨.hbm, 485, rfl⟩
abbrev main_v434 : Ref sig .tc := ⟨.hbm, 486, rfl⟩
abbrev main_v435 : Ref sig .tc := ⟨.hbm, 487, rfl⟩
abbrev main_v436 : Ref sig .tc := ⟨.hbm, 488, rfl⟩
abbrev main_v437 : Ref sig .tc := ⟨.hbm, 489, rfl⟩
abbrev main_v438 : Ref sig .tc := ⟨.hbm, 490, rfl⟩
abbrev main_v439 : Ref sig .tc := ⟨.hbm, 491, rfl⟩
abbrev main_v440 : Ref sig .tc := ⟨.hbm, 492, rfl⟩
abbrev main_v441 : Ref sig .tc := ⟨.hbm, 493, rfl⟩
abbrev main_v442 : Ref sig .tc := ⟨.hbm, 494, rfl⟩
abbrev main_v443 : Ref sig .tc := ⟨.hbm, 495, rfl⟩
abbrev main_v444 : Ref sig .tc := ⟨.hbm, 496, rfl⟩
abbrev main_v445 : Ref sig .tc := ⟨.hbm, 497, rfl⟩
abbrev main_v446 : Ref sig .tc := ⟨.hbm, 498, rfl⟩
abbrev main_v447 : Ref sig .tc := ⟨.hbm, 499, rfl⟩
abbrev main_v448 : Ref sig .tc := ⟨.hbm, 500, rfl⟩
abbrev main_v449 : Ref sig .tc := ⟨.hbm, 501, rfl⟩
abbrev main_v450 : Ref sig .tc := ⟨.hbm, 502, rfl⟩
abbrev main_v451 : Ref sig .tc := ⟨.hbm, 503, rfl⟩
abbrev main_v452 : Ref sig .tc := ⟨.hbm, 504, rfl⟩
abbrev main_v453 : Ref sig .tc := ⟨.hbm, 505, rfl⟩
abbrev main_v454 : Ref sig .tc := ⟨.hbm, 506, rfl⟩
abbrev main_v455 : Ref sig .tc := ⟨.hbm, 507, rfl⟩
abbrev main_v456 : Ref sig .tc := ⟨.hbm, 508, rfl⟩
abbrev main_v457 : Ref sig .tc := ⟨.hbm, 509, rfl⟩
abbrev main_v458 : Ref sig .tc := ⟨.hbm, 510, rfl⟩
abbrev main_v459 : Ref sig .tc := ⟨.hbm, 511, rfl⟩
abbrev main_v460 : Ref sig .tc := ⟨.hbm, 512, rfl⟩
abbrev main_v461 : Ref sig .tc := ⟨.hbm, 513, rfl⟩
abbrev main_cst_27 : Ref sig .tc := ⟨.hbm, 514, rfl⟩
abbrev main_v462 : Ref sig .tc := ⟨.hbm, 515, rfl⟩
abbrev main_v463 : Ref sig .tc := ⟨.hbm, 516, rfl⟩
abbrev main_c_28 : Ref sig .tc := ⟨.hbm, 517, rfl⟩
abbrev main_v464 : Ref sig .tc := ⟨.hbm, 518, rfl⟩
abbrev main_v465 : Ref sig .tc := ⟨.hbm, 519, rfl⟩
abbrev main_cst_29 : Ref sig .tc := ⟨.hbm, 520, rfl⟩
abbrev main_v466 : Ref sig .tc := ⟨.hbm, 521, rfl⟩
abbrev main_cst_30 : Ref sig .tc := ⟨.hbm, 522, rfl⟩
abbrev main_v467 : Ref sig .tc := ⟨.hbm, 523, rfl⟩
abbrev main_v468 : Ref sig .tc := ⟨.hbm, 524, rfl⟩
abbrev main_v469 : Ref sig .tc := ⟨.hbm, 525, rfl⟩
abbrev main_v470 : Ref sig .tc := ⟨.hbm, 526, rfl⟩
abbrev main_v471 : Ref sig .tc := ⟨.hbm, 527, rfl⟩
abbrev main_v472 : Ref sig .tc := ⟨.hbm, 528, rfl⟩
abbrev main_cst_31 : Ref sig .tc := ⟨.hbm, 529, rfl⟩
abbrev main_v473 : Ref sig .tc := ⟨.hbm, 530, rfl⟩
abbrev main_v474 : Ref sig .tc := ⟨.hbm, 531, rfl⟩
abbrev main_v475 : Ref sig .tc := ⟨.hbm, 532, rfl⟩
abbrev main_v476 : Ref sig .tc := ⟨.hbm, 533, rfl⟩
abbrev main_call9_v0 : Ref sig .tc := ⟨.hbm, 534, rfl⟩
abbrev main_v477 : Ref sig .tc := ⟨.hbm, 535, rfl⟩
abbrev main_v478 : Ref sig .tc := ⟨.hbm, 536, rfl⟩
abbrev main_values_32 : Ref sig .tc := ⟨.hbm, 537, rfl⟩
abbrev main_indices_33 : Ref sig .tc := ⟨.hbm, 538, rfl⟩
abbrev main_v479 : Ref sig .tc := ⟨.hbm, 539, rfl⟩
abbrev main_call10_v0 : Ref sig .tc := ⟨.hbm, 540, rfl⟩
abbrev main_call10_v1 : Ref sig .tc := ⟨.hbm, 541, rfl⟩
abbrev main_call10_v2 : Ref sig .tc := ⟨.hbm, 542, rfl⟩
abbrev main_call10_v3 : Ref sig .tc := ⟨.hbm, 543, rfl⟩
abbrev main_call10_v4 : Ref sig .tc := ⟨.hbm, 544, rfl⟩
abbrev main_v480 : Ref sig .tc := ⟨.hbm, 545, rfl⟩
abbrev main_v481 : Ref sig .tc := ⟨.hbm, 546, rfl⟩
abbrev main_v482 : Ref sig .tc := ⟨.hbm, 547, rfl⟩
abbrev main_v483 : Ref sig .tc := ⟨.hbm, 548, rfl⟩
abbrev main_v484 : Ref sig .tc := ⟨.hbm, 549, rfl⟩
abbrev main_c_34 : Ref sig .tc := ⟨.hbm, 550, rfl⟩
abbrev main_call11_v0 : Ref sig .tc := ⟨.hbm, 551, rfl⟩
abbrev main_v485 : Ref sig .tc := ⟨.hbm, 552, rfl⟩
abbrev main_cst_35 : Ref sig .tc := ⟨.hbm, 553, rfl⟩
abbrev main_v486 : Ref sig .tc := ⟨.hbm, 554, rfl⟩
abbrev main_v487 : Ref sig .tc := ⟨.hbm, 555, rfl⟩
abbrev main_v488 : Ref sig .tc := ⟨.hbm, 556, rfl⟩
abbrev main_v489 : Ref sig .tc := ⟨.hbm, 557, rfl⟩
abbrev main_v490 : Ref sig .tc := ⟨.hbm, 558, rfl⟩
abbrev main_v491 : Ref sig .tc := ⟨.hbm, 559, rfl⟩
abbrev main_v492 : Ref sig .tc := ⟨.hbm, 560, rfl⟩
abbrev main_v493 : Ref sig .tc := ⟨.hbm, 561, rfl⟩
abbrev main_v494 : Ref sig .tc := ⟨.hbm, 562, rfl⟩
abbrev main_v495 : Ref sig .tc := ⟨.hbm, 563, rfl⟩
abbrev main_v496 : Ref sig .tc := ⟨.hbm, 564, rfl⟩
abbrev main_v497 : Ref sig .tc := ⟨.hbm, 565, rfl⟩
abbrev main_v498 : Ref sig .tc := ⟨.hbm, 566, rfl⟩
abbrev main_v499 : Ref sig .tc := ⟨.hbm, 567, rfl⟩
abbrev main_v500 : Ref sig .tc := ⟨.hbm, 568, rfl⟩
abbrev main_v501 : Ref sig .tc := ⟨.hbm, 569, rfl⟩
abbrev main_v502 : Ref sig .tc := ⟨.hbm, 570, rfl⟩
abbrev main_v503 : Ref sig .tc := ⟨.hbm, 571, rfl⟩
abbrev main_v504 : Ref sig .tc := ⟨.hbm, 572, rfl⟩
abbrev main_v505 : Ref sig .tc := ⟨.hbm, 573, rfl⟩
abbrev main_v506 : Ref sig .tc := ⟨.hbm, 574, rfl⟩
abbrev main_v507 : Ref sig .tc := ⟨.hbm, 575, rfl⟩
abbrev main_v508 : Ref sig .tc := ⟨.hbm, 576, rfl⟩
abbrev main_v509 : Ref sig .tc := ⟨.hbm, 577, rfl⟩
abbrev main_v510 : Ref sig .tc := ⟨.hbm, 578, rfl⟩
abbrev main_v511 : Ref sig .tc := ⟨.hbm, 579, rfl⟩
abbrev main_v512 : Ref sig .tc := ⟨.hbm, 580, rfl⟩
abbrev main_v513 : Ref sig .tc := ⟨.hbm, 581, rfl⟩
abbrev main_v514 : Ref sig .tc := ⟨.hbm, 582, rfl⟩
abbrev main_v515 : Ref sig .tc := ⟨.hbm, 583, rfl⟩
abbrev main_v516 : Ref sig .tc := ⟨.hbm, 584, rfl⟩
abbrev main_v517 : Ref sig .tc := ⟨.hbm, 585, rfl⟩
abbrev main_v518 : Ref sig .tc := ⟨.hbm, 586, rfl⟩
abbrev main_v519 : Ref sig .tc := ⟨.hbm, 587, rfl⟩
abbrev main_v520 : Ref sig .tc := ⟨.hbm, 588, rfl⟩
abbrev main_v521 : Ref sig .tc := ⟨.hbm, 589, rfl⟩
abbrev main_v522 : Ref sig .tc := ⟨.hbm, 590, rfl⟩
abbrev main_v523 : Ref sig .tc := ⟨.hbm, 591, rfl⟩
abbrev main_v524 : Ref sig .tc := ⟨.hbm, 592, rfl⟩
abbrev main_v525 : Ref sig .tc := ⟨.hbm, 593, rfl⟩
abbrev main_v526 : Ref sig .tc := ⟨.hbm, 594, rfl⟩
abbrev main_v527 : Ref sig .tc := ⟨.hbm, 595, rfl⟩
abbrev main_v528 : Ref sig .tc := ⟨.hbm, 596, rfl⟩
abbrev main_v529 : Ref sig .tc := ⟨.hbm, 597, rfl⟩
abbrev main_v530 : Ref sig .tc := ⟨.hbm, 598, rfl⟩
abbrev main_v531 : Ref sig .tc := ⟨.hbm, 599, rfl⟩
abbrev main_cst_36 : Ref sig .tc := ⟨.hbm, 600, rfl⟩
abbrev main_v532 : Ref sig .tc := ⟨.hbm, 601, rfl⟩
abbrev main_v533 : Ref sig .tc := ⟨.hbm, 602, rfl⟩
abbrev main_v534 : Ref sig .tc := ⟨.hbm, 603, rfl⟩
abbrev main_v535 : Ref sig .tc := ⟨.hbm, 604, rfl⟩

abbrev nD : Nat := 1
abbrev τ : Topo := Topo.v7x

variable {F : FTy → Type} [FloatOps F]
-- ==== Proof.Spec.lean ====
/-
  The mathematics of the network as functions of natural coordinates over the extended reals: what a zero-padded image
  reads, a convolution, the winner-take-all spike of a channel, one spiking layer, the two-by-two pool, and the network.
  Both programs' results are proved equal to `net`.
-/
module

public import Idealize.ShloMosaic.Lib.Pointwise

@[expose] public section

noncomputable section

open scoped BigOperators

namespace Cert.Snn

open Idealize.ShloMosaic

/-- A stack of images: channel, row, column. -/
abbrev Img := ℕ → ℕ → ℕ → EReal
/-- A bank of filters: output channel, input channel, window row, window column. -/
abbrev Bank := ℕ → ℕ → ℕ → ℕ → EReal

/-- The image `f` of `H` rows and `W` columns with `p` zeros on every side, read at row `a` and column `b` of the padded
    frame. -/
def padAt (p H W : ℕ) (f : Img) (c a b : ℕ) : EReal :=
  if p ≤ a ∧ a < p + H ∧ p ≤ b ∧ b < p + W then f c (a - p) (b - p) else 0

/-- The convolution of the padded image with the filter bank, at output channel `o`, row `h`, column `v`. -/
def conv (C K p H W : ℕ) (w : Bank) (f : Img) (o h v : ℕ) : EReal :=
  ∑ kh ∈ Finset.range K, ∑ kw ∈ Finset.range K, ∑ c ∈ Finset.range C, w o c kh kw * padAt p H W f c (h + kh) (v + kw)

/-- One where the number is positive, zero elsewhere. -/
def step (x : EReal) : EReal := if 0 < x then 1 else 0

/-- The small positive number that the potential is clamped below by before the division. -/
def eps : EReal := Ideal.ofBits .f32 0x358637BD#32

/-- The spike time of channel `o` among `O` channels: where `o` is the FIRST channel of greatest potential and that
    potential exceeds the threshold, the weighted time over the clamped potential; zero elsewhere. -/
def spike (O : ℕ) (thr : EReal) (pot : ℕ → EReal) (num : EReal) (o : ℕ) : EReal :=
  if (∀ j < O, pot j ≤ pot o) ∧ (∀ j < o, pot j < pot o) ∧ thr < pot o then Ideal.div num (max (pot o) eps) else 0

/-- One spiking layer. -/
def layer (C O K p H W : ℕ) (thr : EReal) (w : Bank) (f : Img) : Img := fun o h v =>
  spike O thr (fun j => conv C K p H W w (fun c a b => step (f c a b)) j h v) (conv C K p H W w f o h v) o

/-- The greatest of each two-by-two square. -/
def pool (f : Img) : Img := fun c h v =>
  max (max (f c (2 * h) (2 * v)) (f c (2 * h) (2 * v + 1))) (max (f c (2 * h + 1) (2 * v)) (f c (2 * h + 1) (2 * v + 1)))

/-- The first layer's threshold. -/
def thr1 : EReal := Ideal.ofBits .f32 0x4019999A#32
/-- The threshold of the other two layers. -/
def thr2 : EReal := Ideal.ofBits .f32 0x3F800000#32

/-- The network before the second layer. -/
def net1 (x : Img) (w1 : Bank) : Img := pool (layer 2 30 5 2 128 128 thr1 w1 x)
/-- The network before the third layer. -/
def net2 (x : Img) (w1 w2 : Bank) : Img := pool (layer 30 100 3 1 64 64 thr2 w2 (net1 x w1))
/-- The network. -/
def net (x : Img) (w1 w2 w3 : Bank) : Img := layer 100 200 3 1 32 32 thr2 w3 (net2 x w1 w2)

/-- A stack of images as a function of natural coordinates, zero outside its extents. -/
def img {a b c : ℕ} (X : (⟨3, ![a, b, c]⟩ : Shape).Idx → EReal) : Img := fun i j k =>
  if h : i < a ∧ j < b ∧ k < c then X (ix3 ⟨i, h.1⟩ ⟨j, h.2.1⟩ ⟨k, h.2.2⟩) else 0

/-- A filter bank as a function of natural coordinates, zero outside its extents. -/
def bank {a b c d : ℕ} (X : (⟨4, ![a, b, c, d]⟩ : Shape).Idx → EReal) : Bank := fun i j k l =>
  if h : i < a ∧ j < b ∧ k < c ∧ l < d then X (ix4 ⟨i, h.1⟩ ⟨j, h.2.1⟩ ⟨k, h.2.2.1⟩ ⟨l, h.2.2.2⟩) else 0

/-- Inside its extents the function of natural coordinates reads the stack. -/
theorem img_apply {a b c : ℕ} (X : (⟨3, ![a, b, c]⟩ : Shape).Idx → EReal) (i : Fin a) (j : Fin b) (k : Fin c) :
    img X i j k = X (ix3 i j k) := by
  simp [img]

/-- Inside its extents the function of natural coordinates reads the bank. -/
theorem bank_apply {a b c d : ℕ} (X : (⟨4, ![a, b, c, d]⟩ : Shape).Idx → EReal) (i : Fin a) (j : Fin b) (k : Fin c) (l : Fin d) :
    bank X i j k l = X (ix4 i j k l) := by
  simp [bank]

/-- Two images equal inside their extents read alike when padded. -/
theorem padAt_congr {p H W : ℕ} {f g : Img} {c a b : ℕ} (h : ∀ i < H, ∀ j < W, f c i j = g c i j) :
    padAt p H W f c a b = padAt p H W g c a b := by
  unfold padAt
  split
  · exact h _ (by omega) _ (by omega)
  · rfl

/-- Padding commutes with the step, since the step of zero is zero. -/
theorem padAt_step (p H W : ℕ) (f : Img) (c a b : ℕ) :
    padAt p H W (fun c a b => step (f c a b)) c a b = step (padAt p H W f c a b) := by
  unfold padAt
  split
  · rfl
  · simp [step]

/-- A convolution reads the filters and the image only inside their extents. -/
theorem conv_congr {C K p H W : ℕ} {w w' : Bank} {f f' : Img} {o h v : ℕ}
    (hw : ∀ c < C, ∀ kh < K, ∀ kw < K, w o c kh kw = w' o c kh kw)
    (hf : ∀ c < C, ∀ i < H, ∀ j < W, f c i j = f' c i j) :
    conv C K p H W w f o h v = conv C K p H W w' f' o h v := by
  refine Finset.sum_congr rfl fun kh hkh => Finset.sum_congr rfl fun kw hkw => Finset.sum_congr rfl fun c hc => ?_
  rw [Finset.mem_range] at hkh hkw hc
  rw [hw c hc kh hkh kw hkw, padAt_congr (hf c hc)]

/-- A layer reads the image only inside its extents. -/
theorem layer_congr {C O K p H W : ℕ} {thr : EReal} {w : Bank} {f f' : Img} {o h v : ℕ}
    (hf : ∀ c < C, ∀ i < H, ∀ j < W, f c i j = f' c i j) :
    layer C O K p H W thr w f o h v = layer C O K p H W thr w f' o h v := by
  unfold layer
  have e : (fun j => conv C K p H W w (fun c a b => step (f c a b)) j h v)
      = fun j => conv C K p H W w (fun c a b => step (f' c a b)) j h v :=
    funext fun j => conv_congr (fun _ _ _ _ _ _ => rfl) fun c hc i hi j hj => by rw [hf c hc i hi j hj]
  rw [e, conv_congr (fun _ _ _ _ _ _ => rfl) hf]

end Cert.Snn

end
-- ==== Proof.Taps.lean ====
/-
  The convolution as one matrix product: the padded image laid out flat, row after row, between guard columns of zeros;
  the matrix whose rows are the window offsets' shifted copies of it; and the sum over that matrix's rows, which is the
  convolution.
-/
module

public import proofs.«01_k».proof.Proof.Spec
public import Idealize.ShloMosaic.Lib.Pipeline.ValueKit.Acc

@[expose] public section

noncomputable section

open scoped BigOperators

namespace Cert.Snn

open Idealize.ShloMosaic

/-- The image laid out flat, `p` rows of zeros above and below it and 128 zeros before that; zero in the channels past
    `C`. -/
def flat (C p H W : ℕ) (f : Img) (c q : ℕ) : EReal :=
  if c < C ∧ 128 + p * W ≤ q ∧ q < 128 + p * W + H * W then f c ((q - 128) / W - p) ((q - 128) % W) else 0

/-- The glued zeros around an image, read at one place: the image's number where all the tests fall inside. -/
theorem ladder {p1 p2 p3 p4 p5 P : Prop} [Decidable p1] [Decidable p2] [Decidable p3] [Decidable p4] [Decidable p5] [Decidable P]
    (x : EReal) (f : ¬p1 → p2 → ¬p3 → p4 → p5 → EReal) (h : P ↔ ¬p1 ∧ p2 ∧ ¬p3 ∧ p4 ∧ p5) (hf : P → ∀ a b c d e, f a b c d e = x) :
    (if a : p1 then 0 else if b : p2 then if c : p3 then 0 else if d : p4 then if e : p5 then f a b c d e else 0 else 0 else 0)
      = if P then x else 0 := by
  by_cases hP : P
  · rw [if_pos hP]
    obtain ⟨a, b, c, d, e⟩ := h.1 hP
    rw [dif_neg a, dif_pos b, dif_neg c, dif_pos d, dif_pos e, hf hP]
  · rw [if_neg hP]
    repeat' split
    all_goals first | rfl | exact absurd (h.2 ⟨by assumption, by assumption, by assumption, by assumption, by assumption⟩) hP

/-- Row `k` of the matrix of shifted copies: the copy of channel `k % C8` at the window offset `k / C8`, zero where the
    window column leaves the image. -/
def tap (K C8 p W : ℕ) (xf : ℕ → ℕ → EReal) (k q : ℕ) : EReal :=
  if p ≤ q % W + k / C8 % K ∧ q % W + k / C8 % K < p + W then
    xf (k % C8) (128 + k / C8 / K * W + k / C8 % K + q - p)
  else 0

/-- The rows of one slab of the matrix are the channels at one window offset. -/
theorem tap_slab (K : ℕ) {C8 : ℕ} (p W : ℕ) (xf : ℕ → ℕ → EReal) {b c : ℕ} (q : ℕ) (hb : b % C8 = 0) (hc : c < C8) :
    tap K C8 p W xf (b + c) q
      = if p ≤ q % W + b / C8 % K ∧ q % W + b / C8 % K < p + W then xf c (128 + b / C8 / K * W + b / C8 % K + q - p)
        else 0 := by
  have e : C8 * (b / C8) = b := by have := Nat.div_add_mod b C8; omega
  have hC0 : 0 < C8 := by omega
  have e1 : (b + c) / C8 = b / C8 := by
    conv_lhs => rw [← e]
    rw [Nat.mul_add_div hC0, Nat.div_eq_of_lt hc, Nat.add_zero]
  have e2 : (b + c) % C8 = c := by
    rw [← e, Nat.mul_add_mod, Nat.mod_eq_of_lt hc]
  unfold tap
  rw [e1, e2]

/-- A row of the matrix of shifted copies of the flat image is the padded image at the window offset. -/
theorem tap_flat {K C C8 p H W : ℕ} (f : Img) {kh kw c q : ℕ} (hkw : kw < K) (hc : c < C8)
    (hq : q < H * W) (hp : p ≤ 128) :
    tap K C8 p W (flat C p H W f) ((kh * K + kw) * C8 + c) q
      = if c < C then padAt p H W f c (q / W + kh) (q % W + kw) else 0 := by
  have hC0 : 0 < C8 := by omega
  have hK0 : 0 < K := by omega
  have hW0 : 0 < W := by
    rcases Nat.eq_zero_or_pos W with h | h
    · subst h; simp at hq
    · exact h
  have e1 : ((kh * K + kw) * C8 + c) / C8 = kh * K + kw := by
    rw [Nat.mul_comm, Nat.mul_add_div hC0, Nat.div_eq_of_lt hc, Nat.add_zero]
  have e2 : ((kh * K + kw) * C8 + c) % C8 = c := by
    rw [Nat.mul_comm, Nat.mul_add_mod, Nat.mod_eq_of_lt hc]
  have e3 : (kh * K + kw) / K = kh := by
    rw [Nat.mul_comm, Nat.mul_add_div hK0, Nat.div_eq_of_lt hkw, Nat.add_zero]
  have e4 : (kh * K + kw) % K = kw := by
    rw [Nat.mul_comm, Nat.mul_add_mod, Nat.mod_eq_of_lt hkw]
  unfold tap
  rw [e1, e2, e3, e4]
  have hh : q / W < H := (Nat.div_lt_iff_lt_mul hW0).2 hq
  have hv : q % W < W := Nat.mod_lt _ hW0
  have hqv : W * (q / W) + q % W = q := Nat.div_add_mod q W
  generalize hhd : q / W = h at *
  generalize hvd : q % W = v at *
  unfold flat padAt
  by_cases hm : p ≤ v + kw ∧ v + kw < p + W
  · rw [if_pos hm]
    have hu : v + kw - p < W := by omega
    have e5 : 128 + kh * W + kw + q - p - 128 = W * (h + kh) + (v + kw - p) := by
      rw [Nat.mul_add, Nat.mul_comm W kh]; omega
    have e6 : (128 + kh * W + kw + q - p - 128) / W = h + kh := by
      rw [e5, Nat.mul_add_div hW0, Nat.div_eq_of_lt hu, Nat.add_zero]
    have e7 : (128 + kh * W + kw + q - p - 128) % W = v + kw - p := by
      rw [e5, Nat.mul_add_mod, Nat.mod_eq_of_lt hu]
    have hge : 128 ≤ 128 + kh * W + kw + q - p := by omega
    have c1 : 128 + p * W ≤ 128 + kh * W + kw + q - p ↔ p ≤ h + kh := by
      rw [← e6, Nat.le_div_iff_mul_le hW0]; omega
    have c2 : 128 + kh * W + kw + q - p < 128 + p * W + H * W ↔ h + kh < p + H := by
      rw [← e6, Nat.div_lt_iff_lt_mul hW0, Nat.add_mul]; omega
    rw [e6, e7]
    by_cases hcC : c < C
    · rw [if_pos hcC]
      refine if_congr ?_ rfl rfl
      exact ⟨fun t => ⟨c1.1 t.2.1, c2.1 t.2.2, hm.1, hm.2⟩, fun t => ⟨hcC, c1.2 t.1, c2.2 t.2.1⟩⟩
    · rw [if_neg hcC, if_neg fun t => hcC t.1]
  · rw [if_neg hm]
    split
    · rw [if_neg fun h => hm h.2.2]
    · rfl

/-- The step of a row of the matrix is that row of the matrix of the stepped image. -/
theorem step_tap_flat (K C C8 p H W : ℕ) (f : Img) (k q : ℕ) :
    step (tap K C8 p W (flat C p H W f) k q) = tap K C8 p W (flat C p H W fun c a b => step (f c a b)) k q := by
  unfold tap flat
  split
  · split
    · rfl
    · simp [step]
  · simp [step]

/-- The sum over the matrix's rows, weighted by the filters laid out in the same order, is the convolution. -/
theorem sum_tap {K C C8 p H W N : ℕ} (hN : N = K * K * C8) (hC : C ≤ C8) (hp : p ≤ 128) (w : Bank) (f : Img) (wf : Fin N → EReal)
    (o q : ℕ) (hq : q < H * W)
    (hw : ∀ (kh kw c : ℕ) (_ : kh < K) (_ : kw < K) (_ : c < C) (h : (kh * K + kw) * C8 + c < N),
      wf ⟨(kh * K + kw) * C8 + c, h⟩ = w o c kh kw) :
    ∑ k : Fin N, wf k * tap K C8 p W (flat C p H W f) k q = conv C K p H W w f o (q / W) (q % W) := by
  subst hN
  have e : ∀ k : Fin (K * K * C8), wf k * tap K C8 p W (flat C p H W f) k q
      = (fun n => (if h : n < K * K * C8 then wf ⟨n, h⟩ else 0) * tap K C8 p W (flat C p H W f) n q) k.val := by
    intro k; simp
  rw [Finset.sum_congr rfl fun k _ => e k,
    Fin.sum_univ_eq_sum_range (fun n => (if h : n < K * K * C8 then wf ⟨n, h⟩ else 0) * tap K C8 p W (flat C p H W f) n q),
    Finset.sum_range_mul_split, Finset.sum_range_mul_split]
  refine Finset.sum_congr rfl fun kh hkh => Finset.sum_congr rfl fun kw hkw => ?_
  rw [Finset.mem_range] at hkh hkw
  rw [← Finset.sum_subset (Finset.range_subset_range.2 hC)]
  · refine Finset.sum_congr rfl fun c hc => ?_
    rw [Finset.mem_range] at hc
    have hlt : (kh * K + kw) * C8 + c < K * K * C8 := by
      have h1 : kh * K + kw + 1 ≤ K * K := by
        calc kh * K + kw + 1 ≤ kh * K + K := by omega
          _ = (kh + 1) * K := by rw [Nat.add_mul, Nat.one_mul]
          _ ≤ K * K := Nat.mul_le_mul_right K hkh
      calc (kh * K + kw) * C8 + c < (kh * K + kw) * C8 + C8 := by omega
        _ = (kh * K + kw + 1) * C8 := by rw [Nat.add_mul (kh * K + kw), Nat.one_mul]
        _ ≤ K * K * C8 := Nat.mul_le_mul_right C8 h1
    rw [dif_pos hlt, hw kh kw c hkh hkw hc hlt, tap_flat f hkw (by omega) hq hp, if_pos hc]
  · intro c hc hc'
    rw [Finset.mem_range] at hc hc'
    rw [tap_flat f hkw hc hq hp, if_neg hc', mul_zero]

end Cert.Snn

end
-- ==== Proof.Words.lean ====
/-
  What the kernel's words and masks mean: the lane number, the step, the picking of every second lane by a product with
  zeros and ones, and the winner of a column.
-/
module

public import proofs.«01_k».proof.Proof.Spec
public import Idealize.ShloMosaic.Lib.Routing.Words
public import Idealize.ShloMosaic.Lib.WordCmp

@[expose] public section

noncomputable section

open scoped BigOperators

namespace Cert.Snn

open Idealize.ShloMosaic Idealize.ShloMosaic.WordCmp

/-- The value of a comparison's bit, as a number, is one where the proposition holds and zero elsewhere. -/
theorem sitofp_decide (P : Prop) [Decidable P] :
    (FloatOps.sitofp (F := Ideal) .f32 (BitVec.setWidth 32 (BitVec.ofBool (decide P))) : EReal) = if P then 1 else 0 := by
  have e : ∀ b : BitVec 32, (FloatOps.sitofp (F := Ideal) .f32 b : EReal) = ((b.toInt : ℝ) : EReal) := fun _ => rfl
  rw [e]
  by_cases h : P
  · simp [h]
  · simp [h]

/-- The bit of the comparison with zero, as a number, is the step. -/
theorem sitofp_step (x : EReal) :
    (FloatOps.sitofp (F := Ideal) .f32 (BitVec.setWidth 32 (BitVec.ofBool (decide (0 < x)))) : EReal) = step x := by
  rw [sitofp_decide]; rfl

/-- A sum against the indicator of the lane `2 v` picks that lane. -/
theorem sum_even {N : ℕ} (hN : N < 2 ^ 30) (A : Fin N → EReal) (v : ℕ) (hv : 2 * v < N) :
    ∑ x : Fin N, A x * FloatOps.sitofp (F := Ideal) .f32 (BitVec.setWidth 32
        (IntOp.cmpi .eq (BitVec.ofNat 32 ↑x) (IntOp.muli 2#32 (BitVec.ofNat 32 v)))) = A ⟨2 * v, hv⟩ := by
  have hm : IntOp.muli 2#32 (BitVec.ofNat 32 v) = BitVec.ofNat 32 (2 * v) := by
    show 2#32 * BitVec.ofNat 32 v = _
    rw [BitVec.ofNat_mul]
  rw [hm, Finset.sum_eq_single ⟨2 * v, hv⟩]
  · rw [cmpi_eq_ofNat (by simp; omega) (by simp; omega), sitofp_decide, if_pos rfl, mul_one]
  · intro b _ hb
    rw [cmpi_eq_ofNat (by simp; omega) (by simp; omega), sitofp_decide, if_neg fun h => hb (Fin.ext h), mul_zero]
  · intro h; exact absurd (Finset.mem_univ _) h

/-- A sum against the indicator of the lane `2 v + 1` picks that lane. -/
theorem sum_odd {N : ℕ} (hN : N < 2 ^ 30) (A : Fin N → EReal) (v : ℕ) (hv : 2 * v + 1 < N) :
    ∑ x : Fin N, A x * FloatOps.sitofp (F := Ideal) .f32 (BitVec.setWidth 32
        (IntOp.cmpi .eq (BitVec.ofNat 32 ↑x) (IntOp.addi (IntOp.muli 2#32 (BitVec.ofNat 32 v)) 1#32)))
      = A ⟨2 * v + 1, hv⟩ := by
  have hm : IntOp.addi (IntOp.muli 2#32 (BitVec.ofNat 32 v)) 1#32 = BitVec.ofNat 32 (2 * v + 1) := by
    show 2#32 * BitVec.ofNat 32 v + 1#32 = _
    rw [BitVec.ofNat_add, BitVec.ofNat_mul]
  rw [hm, Finset.sum_eq_single ⟨2 * v + 1, hv⟩]
  · rw [cmpi_eq_ofNat (by simp; omega) (by simp; omega), sitofp_decide, if_pos rfl, mul_one]
  · intro b _ hb
    rw [cmpi_eq_ofNat (by simp; omega) (by simp; omega), sitofp_decide, if_neg fun h => hb (Fin.ext h), mul_zero]
  · intro h; exact absurd (Finset.mem_univ _) h

/-- The pattern the maxima start from is minus infinity. -/
theorem ofBits_neg_inf : Ideal.ofBits .f32 4286578688#32 = (⊥ : EReal) := by
  simp [Ideal.ofBits, Ideal.ieee]

/-- The threshold of the second and third layers is one. -/
theorem thr2_eq : thr2 = 1 := Ideal.ofBits_one_f32

/-- The least of a family of words that hold small numbers: a lower bound, and the start or a member. -/
theorem fold_minsi_spec {ι : Type*} [DecidableEq ι] (s : Finset ι) (g : ι → ℕ) (hg : ∀ i, g i < 2 ^ 31) :
    ∃ n, n < 2 ^ 31 ∧ Finset.fold IntOp.minsi 2147483647#32 (fun i => BitVec.ofNat 32 (g i)) s = BitVec.ofNat 32 n
      ∧ (∀ i ∈ s, n ≤ g i) ∧ (n = 2147483647 ∨ ∃ i ∈ s, n = g i) := by
  induction s using Finset.induction_on with
  | empty => exact ⟨2147483647, by decide, rfl, by simp, .inl rfl⟩
  | insert a s ha ih =>
    obtain ⟨n, hn, e, h1, h2⟩ := ih
    refine ⟨min (g a) n, by omega, ?_, ?_, ?_⟩
    · rw [Finset.fold_insert ha, e]
      unfold IntOp.minsi
      have hlt : (BitVec.ofNat 32 (g a)).slt (BitVec.ofNat 32 n) = decide (g a < n) := by
        rw [BitVec.slt, toInt_ofNat_of_lt (by simpa using hg a), toInt_ofNat_of_lt (by simpa using hn)]
        simp
      rw [hlt]
      by_cases hc : g a < n
      · simp [hc, Nat.min_eq_left hc.le]
      · simp [hc, Nat.min_eq_right (Nat.le_of_not_lt hc)]
    · intro i hi
      rcases Finset.mem_insert.1 hi with h | h
      · subst h; omega
      · have := h1 i h; omega
    · rcases Nat.le_total (g a) n with h | h
      · exact .inr ⟨a, Finset.mem_insert_self _ _, by omega⟩
      · rcases h2 with h2 | ⟨i, hi, h2⟩
        · exact .inl (by omega)
        · exact .inr ⟨i, Finset.mem_insert_of_mem hi, by omega⟩

/-- The kernel's winner-take-all at one pixel is the spike. -/
theorem wta {O : ℕ} (hO : O < 2 ^ 31 - 1) (thr num e : EReal) (he : e = eps) (p : ℕ → EReal) (o : ℕ) (ho : o < O) :
    Scalar.select
      (IntOp.andi
        (IntOp.cmpi .eq (BitVec.ofNat 32 o)
          (Finset.fold IntOp.minsi 2147483647#32
            (fun x : Fin O => if p ↑x = Finset.fold max (Ideal.ofBits .f32 4286578688#32) (fun x : Fin O => p ↑x) Finset.univ
              then BitVec.ofNat 32 ↑x else BitVec.ofNat 32 O) Finset.univ))
        (BitVec.ofBool (decide (thr < Finset.fold max (Ideal.ofBits .f32 4286578688#32) (fun x : Fin O => p ↑x) Finset.univ))))
      (Ideal.div num (max (p o) e)) 0 = spike O thr p num o := by
  subst he
  rw [ofBits_neg_inf]
  generalize hM : Finset.fold max (⊥ : EReal) (fun x : Fin O => p ↑x) Finset.univ = M
  have hle : ∀ j < O, p j ≤ M := fun j hj => by
    rw [← hM]
    exact Finset.le_fold_max (p j) |>.2 (.inr ⟨⟨j, hj⟩, Finset.mem_univ _, le_rfl⟩)
  have hge : ∀ c, (∀ j < O, p j ≤ c) → M ≤ c := fun c hc => by
    rw [← hM]
    exact Finset.fold_max_le c |>.2 ⟨bot_le, fun j _ => hc j j.2⟩
  classical
  have hg : (fun x : Fin O => if p ↑x = M then BitVec.ofNat 32 ↑x else BitVec.ofNat 32 O)
      = fun x : Fin O => BitVec.ofNat 32 (if p ↑x = M then ↑x else O) := by
    funext x; split <;> rfl
  obtain ⟨n, hn, e, h1, h2⟩ := fold_minsi_spec (Finset.univ : Finset (Fin O)) (fun x => if p ↑x = M then (x : ℕ) else O)
    (fun x => by have := x.2; split <;> omega)
  have e' : Finset.fold IntOp.minsi 2147483647#32
      (fun x : Fin O => if p ↑x = M then BitVec.ofNat 32 ↑x else BitVec.ofNat 32 O) Finset.univ = BitVec.ofNat 32 n := by
    rw [← e, hg]
  rw [e', cmpi_eq_ofNat (by simp; omega) (by simp; omega), andi_ofBool, select_ofBool]
  unfold spike
  refine if_congr ?_ rfl rfl
  rw [Bool.and_eq_true, decide_eq_true_iff, decide_eq_true_iff]
  constructor
  · rintro ⟨rfl, ht⟩
    have hpo : p o = M := by
      rcases h2 with h2 | ⟨x, _, hx⟩
      · omega
      · by_cases hx' : p ↑x = M
        · rw [if_pos hx'] at hx; rw [hx]; exact hx'
        · rw [if_neg hx'] at hx; omega
    refine ⟨fun j hj => hpo ▸ hle j hj, fun j hj => ?_, hpo ▸ ht⟩
    refine lt_of_le_of_ne (hpo ▸ hle j (by omega)) fun h => ?_
    have := h1 ⟨j, by omega⟩ (Finset.mem_univ _)
    rw [if_pos (show p j = M from h.trans hpo)] at this
    exact absurd (show o ≤ j from this) (by omega)
  · rintro ⟨ha, hb, ht⟩
    have hpo : p o = M := le_antisymm (hle o ho) (hge _ ha)
    refine ⟨?_, hpo ▸ ht⟩
    have hno := h1 ⟨o, ho⟩ (Finset.mem_univ _)
    rw [if_pos (show p o = M from hpo)] at hno
    have hno : n ≤ o := hno
    rcases h2 with h2 | ⟨x, _, hx⟩
    · omega
    · by_cases hx' : p ↑x = M
      · rw [if_pos hx'] at hx
        by_contra hne
        exact absurd (hb x (by omega)) (by rw [hx', hpo]; exact lt_irrefl _)
      · rw [if_neg hx'] at hx; omega

/-- The same, of a table of potentials read at one column. -/
theorem wta_at {O : ℕ} (hO : O < 2 ^ 31 - 1) (thr num e : EReal) (he : e = eps) (p : ℕ → ℕ → EReal) (a o : ℕ) (ho : o < O)
    (d1 : ∀ x : Fin O, Decidable (p ↑x a = Finset.fold max (Ideal.ofBits .f32 4286578688#32) (fun x : Fin O => p ↑x a) Finset.univ))
    (d2 : Decidable (thr < Finset.fold max (Ideal.ofBits .f32 4286578688#32) (fun x : Fin O => p ↑x a) Finset.univ)) :
    Scalar.select
      (IntOp.andi
        (IntOp.cmpi .eq (BitVec.ofNat 32 o)
          (Finset.fold IntOp.minsi 2147483647#32
            (fun x : Fin O => @ite _ (p ↑x a = Finset.fold max (Ideal.ofBits .f32 4286578688#32) (fun x : Fin O => p ↑x a) Finset.univ)
              (d1 x) (BitVec.ofNat 32 ↑x) (BitVec.ofNat 32 O)) Finset.univ))
        (BitVec.ofBool (@decide (thr < Finset.fold max (Ideal.ofBits .f32 4286578688#32) (fun x : Fin O => p ↑x a) Finset.univ) d2)))
      (Ideal.div num (max (p o a) e)) 0 = spike O thr (fun j => p j a) num o := by
  rw [← wta hO thr num e he (fun j => p j a) o ho]
  congr!

/-- The lane number modulo `W`, as the kernel computes it with signed words. -/
theorem lane {q W : ℕ} (hq : q < 2 ^ 31) (h0 : 0 < W) (hW : W < 2 ^ 31) :
    Scalar.select
      (IntOp.andi
        (IntOp.xori
          (IntOp.cmpi .slt (IntOp.remsi .vector (BitVec.ofNat 32 q)
            (Scalar.select (Scalar.cmpi .eq (BitVec.ofNat 32 W) 0#32) 1#32 (BitVec.ofNat 32 W))) 0#32)
          (Scalar.cmpi .slt (Scalar.select (Scalar.cmpi .eq (BitVec.ofNat 32 W) 0#32) 1#32 (BitVec.ofNat 32 W)) 0#32))
        (IntOp.cmpi .ne (IntOp.remsi .vector (BitVec.ofNat 32 q)
            (Scalar.select (Scalar.cmpi .eq (BitVec.ofNat 32 W) 0#32) 1#32 (BitVec.ofNat 32 W))) 0#32))
      (IntOp.addi (IntOp.remsi .vector (BitVec.ofNat 32 q)
            (Scalar.select (Scalar.cmpi .eq (BitVec.ofNat 32 W) 0#32) 1#32 (BitVec.ofNat 32 W)))
        (Scalar.select (Scalar.cmpi .eq (BitVec.ofNat 32 W) 0#32) 1#32 (BitVec.ofNat 32 W)))
      (IntOp.remsi .vector (BitVec.ofNat 32 q)
        (Scalar.select (Scalar.cmpi .eq (BitVec.ofNat 32 W) 0#32) 1#32 (BitVec.ofNat 32 W)))
      = BitVec.ofNat 32 (q % W) := by
  have hd : Scalar.select (Scalar.cmpi .eq (BitVec.ofNat 32 W) 0#32) 1#32 (BitVec.ofNat 32 W) = BitVec.ofNat 32 W := by
    show Scalar.select (IntOp.cmpi .eq (BitVec.ofNat 32 W) (BitVec.ofNat 32 0)) 1#32 (BitVec.ofNat 32 W) = BitVec.ofNat 32 W
    rw [cmpi_eq_ofNat (by omega) (by decide), select_ofBool, if_neg]
    simpa using h0.ne'
  rw [hd, Routing.remsi_word _ hq h0 hW]
  have hr : q % W < 2 ^ 31 := lt_trans (Nat.mod_lt _ h0) hW
  have e1 : IntOp.cmpi .slt (BitVec.ofNat 32 (q % W)) 0#32 = BitVec.ofBool (decide (q % W < 0)) :=
    cmpi_slt_ofNat (by simpa using hr) (by decide)
  have e2 : Scalar.cmpi .slt (BitVec.ofNat 32 W) 0#32 = BitVec.ofBool (decide (W < 0)) :=
    cmpi_slt_ofNat (by simpa using hW) (by decide)
  have e3 : IntOp.cmpi .ne (BitVec.ofNat 32 (q % W)) 0#32 = BitVec.ofBool (decide (q % W ≠ 0)) :=
    cmpi_ne_ofNat (by omega) (by decide)
  rw [e1, e2, e3, xori_ofBool, andi_ofBool, select_ofBool, if_neg]
  simp

/-- The mask of the lanes from `b` on. -/
theorem select_ge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [cmpi_sge_ofNat (by simpa using ha) (by simpa using hb), select_decide]

/-- The mask of the lanes before `b`. -/
theorem select_lt {α : Type} {a b : ℕ} (ha : a < 2 ^ 31) (hb : b < 2 ^ 31) (x y : α) :
    Scalar.select (IntOp.cmpi .slt (BitVec.ofNat 32 a) (BitVec.ofNat 32 b)) x y = if a < b then x else y := by
  rw [cmpi_slt_ofNat (by simpa using ha) (by simpa using hb), select_decide]

end Cert.Snn

end
-- ==== Proof.Pieces.lean ====
/-
  A tall matrix glued from many slabs of rows, read at an index.
-/
module

public import Idealize.ShloMosaic.Lib.Pointwise

@[expose] public section

noncomputable section

namespace Cert.Snn

open Idealize.ShloMosaic

/-- A list of slabs of `R` rows and `Q` columns that holds the rows of `g` from row `b` on, in order. -/
inductive Slabs (R Q : ℕ) (g : ℕ → ℕ → EReal) : ℕ → List ((s : Shape) × (s.Idx → EReal)) → Prop
  | nil (b : ℕ) : Slabs R Q g b []
  | cons (b : ℕ) (x : (⟨2, ![R, Q]⟩ : Shape).Idx → EReal) (xs : List ((s : Shape) × (s.Idx → EReal)))
      (hx : ∀ (c : Fin R) (q : Fin Q), x (ix2 c q) = g (b + c) q) (hxs : Slabs R Q g (b + R) xs) :
      Slabs R Q g b (⟨⟨2, ![R, Q]⟩, x⟩ :: xs)

theorem concatAt_slabs {R Q T : ℕ} {g : ℕ → ℕ → EReal} (j : (⟨2, ![T, Q]⟩ : Shape).Idx) :
    ∀ (xs : List ((s : Shape) × (s.Idx → EReal))) (b c : ℕ) (_ : Slabs R Q g b xs)
      (hs : ∀ s ∈ xs.map (·.1), s.FitsOff (⟨2, ![T, Q]⟩ : Shape) 0)
      (hc : c < (axisSizes (⟨2, ![T, Q]⟩ : Shape) 0 xs).sum),
      concatenateAt (⟨2, ![T, Q]⟩ : Shape) 0 j xs hs c hc = g (b + c) (j 1) := by
  intro xs
  induction xs with
  | nil => intro b c _ hs hc; exact absurd hc (Nat.not_lt_zero _)
  | cons p xs ih =>
    intro b c h hs hc
    cases h with
    | cons _ x _ hx hxs =>
      have key : ∀ (hc' : c < R), g (b + c) (j 1).val = x (ix2 ⟨c, hc'⟩ (j 1)) := fun hc' => (hx ⟨c, hc'⟩ (j 1)).symm
      cases xs with
      | nil =>
        rw [concatenateAt_singleton]
        have hR : c < R := by simpa [axisSizes] using hc
        rw [key hR]
        congr 1
        funext a
        match a with
        | ⟨0, _⟩ => rfl
        | ⟨1, _⟩ => rfl
      | cons p' xs' =>
        rw [concatenateAt_cons]
        split
        · rename_i hlt
          rw [key hlt]
          congr 1
          funext a
          match a with
          | ⟨0, _⟩ => rfl
          | ⟨1, _⟩ => rfl
        · rename_i hlt
          rw [ih (b + R) _ hxs]
          have : R ≤ c := Nat.le_of_not_lt hlt
          congr 1
          show b + R + (c - R) = b + c
          omega

/-- A matrix glued from slabs that hold the rows of `g` in order is `g`. -/
theorem concat_slabs {R Q T : ℕ} {g : ℕ → ℕ → EReal} (xs : List ((s : Shape) × (s.Idx → EReal)))
    (h : Shape.Concatenates (xs.map (·.1)) (⟨2, ![T, Q]⟩ : Shape) 0) (hx : Slabs R Q g 0 xs) (k : Fin T) (q : Fin Q) :
    concatenate (⟨2, ![T, Q]⟩ : Shape) 0 xs h (ix2 k q) = g k q := by
  rw [concatenate_apply, concatAt_slabs _ xs 0 _ hx, Nat.zero_add]
  rfl

end Cert.Snn

end
-- ==== Proof.Kernel1.lean ====
/-
  The kernel's first layer: the flat padded image, the matrix of its shifted copies, the two products, the winner, and
  the pooled result laid out flat for the second layer.
-/
module

public import proofs.«01_k».proof.Proof.Spec
public import proofs.«01_k».proof.Proof.Taps
public import proofs.«01_k».proof.Proof.Words
public import proofs.«01_k».proof.Proof.Pieces
public import proofs.«01_k».proof.Proof.Gen.KernelIdeal.Skeleton

@[expose] public section

set_option maxRecDepth 16384

noncomputable section

open scoped BigOperators

namespace Cert.Snn

open Idealize.ShloMosaic Cert.KernelIdeal Cert.KernelIdeal.Gen Cert.KernelIdeal.Facts₀

/-- The first layer's flat padded image. -/
theorem flat1 (v0 : Vec Ideal S2x128x128 .f32) (c : Fin 8) (q : Fin 17280) :
    k0_pay8 v0 (ix2 c q) = flat 2 2 128 128 (img v0) c q := by
  pointwise [k0_pay8]
  have hc := c.2
  have hq := q.2
  have key : ∀ (h0 : (c : ℕ) < 2) (h1 : ((q : ℕ) - 128) / 128 - 2 < 128) (h2 : ((q : ℕ) - 128) % 128 < 128),
      v0 (ix3 ⟨c, h0⟩ ⟨((q : ℕ) - 128) / 128 - 2, h1⟩ ⟨((q : ℕ) - 128) % 128, h2⟩)
        = img v0 c (((q : ℕ) - 128) / 128 - 2) (((q : ℕ) - 128) % 128) :=
    fun h0 h1 h2 => (img_apply v0 ⟨c, h0⟩ ⟨_, h1⟩ ⟨_, h2⟩).symm
  unfold flat
  by_cases h : (c : ℕ) < 2 ∧ 128 + 2 * 128 ≤ (q : ℕ) ∧ (q : ℕ) < 128 + 2 * 128 + 128 * 128
  · rw [if_pos h]
    repeat' split
    all_goals first | exact key _ _ _ | (exfalso; omega)
  · rw [if_neg h]
    repeat' split
    all_goals first | rfl | (exfalso; omega)

/-- The first layer's lane numbers. -/
theorem lane1 (c : Fin 8) (q : Fin 17024) : k0_pay9 (ix2 c q) = BitVec.ofNat 32 (q % 128) := by
  pointwise [k0_pay9]
  have hq := q.2
  exact lane (by omega) (by decide) (by decide)

/-- The first layer's matrix of shifted copies. -/
theorem taps1 (X : ℕ → ℕ → EReal) (v14 : FVec Ideal S8x17280 .f32) (v31 : IVec S8x17024 32) (v36 v37 : FVec Ideal S8x17024 .f32)
    (h14 : ∀ (c : Fin 8) (q : Fin 17280), v14 (ix2 c q) = X c q)
    (h31 : ∀ (c : Fin 8) (q : Fin 17024), v31 (ix2 c q) = BitVec.ofNat 32 (q % 128))
    (h36 : ∀ (c : Fin 8) (q : Fin 17024), v36 (ix2 c q) = if 2 ≤ (q : ℕ) % 128 then X c (126 + q) else 0)
    (h37 : ∀ (c : Fin 8) (q : Fin 17024), v37 (ix2 c q) = X c (127 + q))
    (k : Fin 200) (q : Fin 16384) : k0_pay12 v14 v31 v36 v37 1#32 (ix2 k q) = tap 5 8 2 128 X k q := by
  unfold k0_pay12
  refine concat_slabs (R := 8) (Q := 16384) (T := 200) (g := tap 5 8 2 128 X) _ _ ?_ k q
  repeat' refine Slabs.cons _ _ _ (fun c q => ?_) ?_
  on_goal 26 => exact Slabs.nil _
  all_goals
    rw [tap_slab 5 2 128 X _ (by decide) c.2]
    have hc := c.2
    have hq := q.2
    pointwise []
    simp only [h14, h31, h36, h37, Nat.reduceAdd, Nat.reduceDiv, Nat.reduceMod, Nat.reduceMul]
    try rw [select_ge (by omega) (by decide)]
    try rw [select_lt (by omega) (by decide)]
    split_ifs <;> first | rfl | (exfalso; omega) | (congr 1; omega)

/-- The first layer's two products are the convolutions of the stepped image and of the image. -/
theorem dots1 (w : Bank) (f : Img) (v2 : FVec Ideal S30x200 .f32) (v14 : FVec Ideal S8x17280 .f32) (v31 : IVec S8x17024 32)
    (v36 v37 : FVec Ideal S8x17024 .f32)
    (h2 : ∀ (o : Fin 30) (kh kw c : ℕ) (_ : kh < 5) (_ : kw < 5) (_ : c < 2) (h : (kh * 5 + kw) * 8 + c < 200),
      v2 (ix2 o ⟨(kh * 5 + kw) * 8 + c, h⟩) = w o c kh kw)
    (ht : ∀ (k : Fin 200) (q : Fin 16384), k0_pay12 v14 v31 v36 v37 1#32 (ix2 k q) = tap 5 8 2 128 (flat 2 2 128 128 f) k q)
    (o : Fin 30) (q : Fin 16384) :
    k0_pay13 v2 v14 v31 v36 v37 1#32 (ix2 o q)
        = conv 2 5 2 128 128 w (fun c a b => step (f c a b)) o (q / 128) (q % 128)
      ∧ k0_pay14 v2 v14 v31 v36 v37 1#32 (ix2 o q) = conv 2 5 2 128 128 w f o (q / 128) (q % 128) := by
  have hq : (q : ℕ) < 128 * 128 := q.2
  constructor
  · pointwise [k0_pay13]
    simp only [sitofp_step, ht, step_tap_flat]
    exact sum_tap (K := 5) (C := 2) (C8 := 8) (p := 2) (H := 128) (W := 128) rfl (by decide) (by decide) w _ (fun k => v2 (ix2 o k)) o q hq
      fun kh kw c a b d h => h2 o kh kw c a b d h
  · pointwise [k0_pay14]
    simp only [ht]
    exact sum_tap (K := 5) (C := 2) (C8 := 8) (p := 2) (H := 128) (W := 128) rfl (by decide) (by decide) w _ (fun k => v2 (ix2 o k)) o q hq
      fun kh kw c a b d h => h2 o kh kw c a b d h

/-- The first layer's winners, pooled and laid out flat for the second layer. -/
theorem tail1 (p n : ℕ → ℕ → EReal) (L : Img) (v83 v84 v88 : FVec Ideal S30x16384 .f32) (v86 : FVec Ideal S1x16384 .f32)
    (v87 : IVec S30x16384 32)
    (h83 : ∀ (o : Fin 30) (q : Fin 16384), v83 (ix2 o q) = p o q)
    (h84 : ∀ (o : Fin 30) (q : Fin 16384), v84 (ix2 o q) = n o q)
    (h86 : ∀ (o : Fin 1) (q : Fin 16384), v86 (ix2 o q)
      = Finset.fold max (Ideal.ofBits .f32 4286578688#32) (fun x : Fin 30 => p x q) Finset.univ)
    (h87 : ∀ (o : Fin 30) (q : Fin 16384), v87 (ix2 o q) = BitVec.ofNat 32 o)
    (h88 : ∀ (o : Fin 30) (q : Fin 16384), v88 (ix2 o q)
      = Finset.fold max (Ideal.ofBits .f32 4286578688#32) (fun x : Fin 30 => p x q) Finset.univ)
    (hL : ∀ o < 30, ∀ q < 16384, spike 30 thr1 (fun j => p j q) (n o q) o = L o (q / 128) (q % 128))
    (c : Fin 32) (q : Fin 4608) :
    k0_pay17 v83 v84 v86 v87 v88 (ix2 c q) = flat 30 1 64 64 (pool L) c q := by
  have hc := c.2
  have hq := q.2
  pointwise [k0_pay17]
  simp only [h83, h84, h86, h87, h88]
  unfold flat
  refine ladder _ _ (by omega) fun h _ _ _ _ _ => ?_
  rw [sum_even (by decide) _ _ (by omega), sum_odd (by decide) _ _ (by omega)]
  dsimp only
  generalize hr : (c : ℕ) * 64 + (((q : ℕ) - 128) / 64 - 1) = r
  have hrl : r < 1920 := by omega
  have ho : r / 64 < 30 := by omega
  have e := fun a (ha : a < 16384) => hL (r / 64) ho a ha
  refine (congrArg₂ max
    (congrArg₂ max ((wta_at (by decide) _ _ _ rfl p _ _ ho _ _).trans (e _ (by omega)))
      ((wta_at (by decide) _ _ _ rfl p _ _ ho _ _).trans (e _ (by omega))))
    (congrArg₂ max ((wta_at (by decide) _ _ _ rfl p _ _ ho _ _).trans (e _ (by omega)))
      ((wta_at (by decide) _ _ _ rfl p _ _ ho _ _).trans (e _ (by omega))))).trans ?_
  unfold pool
  rw [max_max_max_comm]
  congr 3 <;> omega

end Cert.Snn

end
-- ==== Proof.Kernel2.lean ====
/-
  The kernel's second layer: the matrix of shifted copies, the two products, the winner, and the pooled result laid out
  flat for the third layer.
-/
module

public import proofs.«01_k».proof.Proof.Spec
public import proofs.«01_k».proof.Proof.Taps
public import proofs.«01_k».proof.Proof.Words
public import proofs.«01_k».proof.Proof.Pieces
public import proofs.«01_k».proof.Proof.Gen.KernelIdeal.Skeleton

@[expose] public section

set_option maxRecDepth 16384

noncomputable section

open scoped BigOperators

namespace Cert.Snn

open Idealize.ShloMosaic Cert.KernelIdeal Cert.KernelIdeal.Gen Cert.KernelIdeal.Facts₀

/-- The second layer's lane numbers. -/
theorem lane2 (c : Fin 32) (q : Fin 4352) : k0_pay18 (ix2 c q) = BitVec.ofNat 32 (q % 64) := by
  pointwise [k0_pay18]
  have hq := q.2
  exact lane (by omega) (by decide) (by decide)

/-- The second layer's winners, the greater of each two neighbouring rows. -/
theorem rows2 (w : Bank) (f : Img) (v4 : FVec Ideal S100x288 .f32) (v134 : FVec Ideal S32x4608 .f32)
    (h4 : ∀ (o : Fin 100) (kh kw c : ℕ) (_ : kh < 3) (_ : kw < 3) (_ : c < 30) (h : (kh * 3 + kw) * 32 + c < 288),
      v4 (ix2 o ⟨(kh * 3 + kw) * 32 + c, h⟩) = w o c kh kw)
    (h134 : ∀ (c : Fin 32) (q : Fin 4608), v134 (ix2 c q) = flat 30 1 64 64 f c q) (r : Fin 3200) (x : Fin 64) :
    k0_pay29 v4 (k0_pay20 v134) (k0_pay21 v134) (k0_pay22 v134) (k0_pay23 v134) (k0_pay24 v134) (k0_pay25 v134) (k0_pay26 v134)
        (k0_pay27 v134) (k0_pay28 v134) (ix2 r x)
      = max (layer 30 100 3 1 64 64 thr2 w f (r / 32) (2 * (r % 32)) x)
          (layer 30 100 3 1 64 64 thr2 w f (r / 32) (2 * (r % 32) + 1) x) := by
  have hr := r.2
  have hx := x.2
  dsimp only [k0_pay29]
  generalize hT : concatenate S288x4096 0 _ _ = T
  have ht : ∀ (k : Fin 288) (q : Fin 4096), T (ix2 k q) = tap 3 32 1 64 (flat 30 1 64 64 f) k q := by
    intro k q
    rw [← hT]
    generalize flat 30 1 64 64 f = X at *
    refine concat_slabs (R := 32) (Q := 4096) (T := 288) (g := tap 3 32 1 64 X) _ _ ?_ k q
    repeat' refine Slabs.cons _ _ _ (fun c q => ?_) ?_
    on_goal 10 => exact Slabs.nil _
    all_goals
      rw [tap_slab 3 1 64 X _ (by decide) c.2]
      have hc := c.2
      have hq := q.2
      pointwise [k0_pay19, k0_pay20, k0_pay21, k0_pay22, k0_pay23, k0_pay24, k0_pay25, k0_pay26, k0_pay27, k0_pay28]
      simp only [h134, lane2, Nat.reduceAdd, Nat.reduceDiv, Nat.reduceMod, Nat.reduceMul]
      try rw [select_ge (by omega) (by decide)]
      try rw [select_lt (by omega) (by decide)]
      split_ifs <;> first | rfl | (exfalso; omega) | (congr 1; omega)
  generalize hP : matmul dot_S100x288_S288x4096_S100x4096_1_0_0_1_n_n none v4 (sitofp .f32 _) _ = P
  generalize hN : matmul dot_S100x288_S288x4096_S100x4096_1_0_0_1_n_n none v4 T _ = N
  have hp : ∀ (o : Fin 100) (q : Fin 4096), P (ix2 o q)
      = (fun o q => conv 30 3 1 64 64 w (fun c a b => step (f c a b)) o (q / 64) (q % 64)) o.val q.val := by
    intro o q
    rw [← hP]
    pointwise []
    simp only [sitofp_step, ht, step_tap_flat]
    exact sum_tap (K := 3) (C := 30) (C8 := 32) (p := 1) (H := 64) (W := 64) rfl (by decide) (by decide) w _
      (fun k => v4 (ix2 o k)) o q q.2 fun kh kw c a b d h => h4 o kh kw c a b d h
  have hn : ∀ (o : Fin 100) (q : Fin 4096), N (ix2 o q)
      = (fun o q => conv 30 3 1 64 64 w f o (q / 64) (q % 64)) o.val q.val := by
    intro o q
    rw [← hN]
    pointwise []
    simp only [ht]
    exact sum_tap (K := 3) (C := 30) (C8 := 32) (p := 1) (H := 64) (W := 64) rfl (by decide) (by decide) w _
      (fun k => v4 (ix2 o k)) o q q.2 fun kh kw c a b d h => h4 o kh kw c a b d h
  clear hP hN hT ht
  generalize hpp : (fun o q => conv 30 3 1 64 64 w (fun c a b => step (f c a b)) o (q / 64) (q % 64)) = p at hp
  generalize hnn : (fun o q => conv 30 3 1 64 64 w f o (q / 64) (q % 64)) = n at hn
  pointwise []
  simp only [hp, hn]
  have ho : (r : ℕ) / 32 < 100 := by omega
  refine (congrArg₂ max (wta_at (by decide) _ _ _ rfl p _ _ ho _ _) (wta_at (by decide) _ _ _ rfl p _ _ ho _ _)).trans ?_
  subst hpp hnn
  have a1 : ((r : ℕ) % 32 * 128 + x) / 64 = 2 * (r % 32) := by omega
  have a2 : ((r : ℕ) % 32 * 128 + x) % 64 = x := by omega
  have a3 : ((r : ℕ) % 32 * 128 + (64 + x)) / 64 = 2 * (r % 32) + 1 := by omega
  have a4 : ((r : ℕ) % 32 * 128 + (64 + x)) % 64 = x := by omega
  unfold layer
  simp only [thr2_eq, a1, a2, a3, a4]

/-- The pooled second layer laid out flat for the third. -/
theorem tail2 (L : Img) (v213 : FVec Ideal S3200x64 .f32)
    (h213 : ∀ (r : Fin 3200) (x : Fin 64), v213 (ix2 r x) = max (L (r / 32) (2 * (r % 32)) x) (L (r / 32) (2 * (r % 32) + 1) x))
    (c : Fin 104) (q : Fin 1472) :
    k0_pay32 v213 k0_pay30 k0_pay31 (constant S3200x32 .f32 0x00000000#32) (ix2 c q) = flat 100 1 32 32 (pool L) c q := by
  have hc := c.2
  have hq := q.2
  pointwise [k0_pay32, k0_pay30, k0_pay31]
  simp only [h213]
  unfold flat
  refine ladder _ _ (by omega) fun h _ _ _ _ _ => ?_
  rw [sum_even (by decide) _ _ (by omega), sum_odd (by decide) _ _ (by omega)]
  dsimp only
  unfold pool
  rw [max_max_max_comm]
  congr 3 <;> omega

end Cert.Snn

end
-- ==== Proof.Kernel3.lean ====
/-
  The kernel's third layer: the matrix of shifted copies, the two products and the winner.
-/
module

public import proofs.«01_k».proof.Proof.Spec
public import proofs.«01_k».proof.Proof.Taps
public import proofs.«01_k».proof.Proof.Words
public import proofs.«01_k».proof.Proof.Pieces
public import proofs.«01_k».proof.Proof.Gen.KernelIdeal.Skeleton

@[expose] public section

set_option maxRecDepth 16384

noncomputable section

open scoped BigOperators

namespace Cert.Snn

open Idealize.ShloMosaic Cert.KernelIdeal Cert.KernelIdeal.Gen Cert.KernelIdeal.Facts₀

/-- The third layer's lane numbers. -/
theorem lane3 (c : Fin 104) (q : Fin 1216) : k0_pay33 (ix2 c q) = BitVec.ofNat 32 (q % 32) := by
  pointwise [k0_pay33]
  have hq := q.2
  exact lane (by omega) (by decide) (by decide)

/-- The third layer's matrix of shifted copies. -/
theorem taps3 (X : ℕ → ℕ → EReal) (v213 : FVec Ideal S3200x64 .f32) (v220 v227 : FVec Ideal S64x32 .f32)
    (cst : FVec Ideal S3200x32 .f32)
    (h : ∀ (c : Fin 104) (q : Fin 1472), k0_pay32 v213 v220 v227 cst (ix2 c q) = X c q) (k : Fin 936) (q : Fin 1024) :
    k0_pay39 (k0_pay32 v213 v220 v227 cst) k0_pay33 (k0_pay34 v213 v220 v227 cst) (k0_pay35 v213 v220 v227 cst)
      (k0_pay36 v213 v220 v227 cst) (k0_pay37 v213 v220 v227 cst) k0_pay38 (Scalar.ofBits .f32 0x00000000#32) (ix2 k q)
      = tap 3 104 1 32 X k q := by
  unfold k0_pay39
  refine concat_slabs (R := 104) (Q := 1024) (T := 936) (g := tap 3 104 1 32 X) _ _ ?_ k q
  repeat' refine Slabs.cons _ _ _ (fun c q => ?_) ?_
  on_goal 10 => exact Slabs.nil _
  all_goals
    rw [tap_slab 3 1 32 X _ (by decide) c.2]
    have hc := c.2
    have hq := q.2
    pointwise [k0_pay34, k0_pay35, k0_pay36, k0_pay37, k0_pay38]
    simp only [h, lane3, Nat.reduceAdd, Nat.reduceDiv, Nat.reduceMod, Nat.reduceMul]
    try rw [select_ge (by omega) (by decide)]
    try rw [select_lt (by omega) (by decide)]
    split_ifs <;> first | rfl | (exfalso; omega) | (congr 1; omega)

/-- The third layer's two products are the convolutions of the stepped image and of the image. -/
theorem dots3 (w : Bank) (f : Img) (v6 : FVec Ideal S200x936 .f32) (v239 : FVec Ideal S104x1472 .f32) (v256 : IVec S104x1216 32)
    (v261 v262 v267 v268 : FVec Ideal S104x1216 .f32) (v270 : IVec S104x1216 1) (cst : Ideal .f32)
    (h6 : ∀ (o : Fin 200) (kh kw c : ℕ) (_ : kh < 3) (_ : kw < 3) (_ : c < 100) (h : (kh * 3 + kw) * 104 + c < 936),
      v6 (ix2 o ⟨(kh * 3 + kw) * 104 + c, h⟩) = w o c kh kw)
    (ht : ∀ (k : Fin 936) (q : Fin 1024), k0_pay39 v239 v256 v261 v262 v267 v268 v270 cst (ix2 k q)
      = tap 3 104 1 32 (flat 100 1 32 32 f) k q)
    (o : Fin 200) (q : Fin 1024) :
    k0_pay40 v6 v239 v256 v261 v262 v267 v268 v270 cst (ix2 o q)
        = conv 100 3 1 32 32 w (fun c a b => step (f c a b)) o (q / 32) (q % 32)
      ∧ k0_pay41 v6 v239 v256 v261 v262 v267 v268 v270 cst (ix2 o q) = conv 100 3 1 32 32 w f o (q / 32) (q % 32) := by
  have hq : (q : ℕ) < 32 * 32 := q.2
  constructor
  · pointwise [k0_pay40]
    simp only [sitofp_step, ht, step_tap_flat]
    exact sum_tap (K := 3) (C := 100) (C8 := 104) (p := 1) (H := 32) (W := 32) rfl (by decide) (by decide) w _
      (fun k => v6 (ix2 o k)) o q hq fun kh kw c a b d h => h6 o kh kw c a b d h
  · pointwise [k0_pay41]
    simp only [ht]
    exact sum_tap (K := 3) (C := 100) (C8 := 104) (p := 1) (H := 32) (W := 32) rfl (by decide) (by decide) w _
      (fun k => v6 (ix2 o k)) o q hq fun kh kw c a b d h => h6 o kh kw c a b d h

/-- The third layer's winners. -/
theorem tail3 (w : Bank) (f : Img) (v6 : FVec Ideal S200x936 .f32) (v239 : FVec Ideal S104x1472 .f32) (v256 : IVec S104x1216 32)
    (v261 v262 v267 v268 : FVec Ideal S104x1216 .f32) (v270 : IVec S104x1216 1) (cst : Ideal .f32)
    (h6 : ∀ (o : Fin 200) (kh kw c : ℕ) (_ : kh < 3) (_ : kw < 3) (_ : c < 100) (h : (kh * 3 + kw) * 104 + c < 936),
      v6 (ix2 o ⟨(kh * 3 + kw) * 104 + c, h⟩) = w o c kh kw)
    (ht : ∀ (k : Fin 936) (q : Fin 1024), k0_pay39 v239 v256 v261 v262 v267 v268 v270 cst (ix2 k q)
      = tap 3 104 1 32 (flat 100 1 32 32 f) k q)
    (o : Fin 200) (q : Fin 1024) :
    k0_pay45 (k0_pay40 v6 v239 v256 v261 v262 v267 v268 v270 cst) (k0_pay41 v6 v239 v256 v261 v262 v267 v268 v270 cst)
        (k0_pay42 v6 v239 v256 v261 v262 v267 v268 v270 cst) (k0_pay43 v6 v239 v256 v261 v262 v267 v268 v270 cst) k0_pay44 (ix2 o q)
      = layer 100 200 3 1 32 32 thr2 w f o (q / 32) (q % 32) := by
  have hp : ∀ (o : Fin 200) (q : Fin 1024), k0_pay40 v6 v239 v256 v261 v262 v267 v268 v270 cst (ix2 o q)
      = (fun o q => conv 100 3 1 32 32 w (fun c a b => step (f c a b)) o (q / 32) (q % 32)) o.val q.val :=
    fun o q => (dots3 w f v6 v239 v256 v261 v262 v267 v268 v270 cst h6 ht o q).1
  have hn : ∀ (o : Fin 200) (q : Fin 1024), k0_pay41 v6 v239 v256 v261 v262 v267 v268 v270 cst (ix2 o q)
      = (fun o q => conv 100 3 1 32 32 w f o (q / 32) (q % 32)) o.val q.val :=
    fun o q => (dots3 w f v6 v239 v256 v261 v262 v267 v268 v270 cst h6 ht o q).2
  generalize hpp : (fun o q => conv 100 3 1 32 32 w (fun c a b => step (f c a b)) o (q / 32) (q % 32)) = p at hp
  pointwise [k0_pay45, k0_pay42, k0_pay43, k0_pay44]
  simp only [hp, hn]
  refine (wta_at (by decide) _ _ _ rfl p _ _ o.2 _ _).trans ?_
  subst hpp
  unfold layer
  rw [thr2_eq]

end Cert.Snn

end
-- ==== Proof.KernelNet.lean ====
module

public import proofs.«01_k».proof.Proof.Kernel1
public import proofs.«01_k».proof.Proof.Kernel2
public import proofs.«01_k».proof.Proof.Kernel3
public import proofs.«01_k».proof.Proof.Gen.KernelIdeal.Frame
public import Idealize.ShloMosaic.Lib.Pipeline.Value

/-! The kernel's three layers in a row: what the block it computes holds, from the image and the wall of filters. -/

@[expose] public section

set_option maxRecDepth 16384

noncomputable section
namespace Cert.Snn
open Idealize.ShloMosaic Cert.KernelIdeal Cert.KernelIdeal.Gen Cert.KernelIdeal.Facts₀

/-- The wall of filters holds the three banks, each filter a row, window offset by window offset, channel by channel. -/
structure Wall (w1 w2 w3 : Bank) (x1 : Vec Ideal S330x936 .f32) : Prop where
  one : ∀ (o : Fin 30) (kh kw c : ℕ) (_ : kh < 5) (_ : kw < 5) (_ : c < 2) (h : (kh * 5 + kw) * 8 + c < 936),
    x1 (ix2 ⟨o, by omega⟩ ⟨(kh * 5 + kw) * 8 + c, h⟩) = w1 o c kh kw
  two : ∀ (o : Fin 100) (kh kw c : ℕ) (_ : kh < 3) (_ : kw < 3) (_ : c < 30) (h : (kh * 3 + kw) * 32 + c < 936),
    x1 (ix2 ⟨30 + o, by omega⟩ ⟨(kh * 3 + kw) * 32 + c, h⟩) = w2 o c kh kw
  three : ∀ (o : Fin 200) (kh kw c : ℕ) (_ : kh < 3) (_ : kw < 3) (_ : c < 100) (h : (kh * 3 + kw) * 104 + c < 936),
    x1 (ix2 ⟨130 + o, by omega⟩ ⟨(kh * 3 + kw) * 104 + c, h⟩) = w3 o c kh kw

/-- The flat image shifted by two columns, with the columns that fall before the row taken out. -/
theorem shifts1 (v0 : Vec Ideal S2x128x128 .f32) (c : Fin 8) (q : Fin 17024) :
    k0_pay10 v0 (ix2 c q) = (if 2 ≤ (q : ℕ) % 128 then flat 2 2 128 128 (img v0) c (126 + q) else 0)
      ∧ k0_pay11 v0 (ix2 c q) = flat 2 2 128 128 (img v0) c (127 + q) := by
  have hq := q.2
  constructor
  · pointwise [k0_pay10]
    simp only [flat1, lane1, Nat.reduceAdd]
    try rw [select_ge (by omega) (by decide)]
  · pointwise [k0_pay11]
    simp only [flat1]

variable (x0 : Vec Ideal S2x128x128 .f32) (x1 : Vec Ideal S330x936 .f32) (w1 w2 w3 : Bank)

/-- After the first layer and its pooling. -/
theorem after1 (hw : Wall w1 w2 w3 x1) (c : Fin 32) (q : Fin 4608) :
    k0_pay84 x0 x1 (ix2 c q) = flat 30 1 64 64 (net1 (img x0) w1) c q := by
  have hx : View.ld x0 r0_0 = x0 := View.ld_unit_zero (by decide) _ _
  have h2 : ∀ (o : Fin 30) (kh kw c : ℕ) (_ : kh < 5) (_ : kw < 5) (_ : c < 2) (h : (kh * 5 + kw) * 8 + c < 200),
      k0_pay78 x0 x1 (ix2 o ⟨(kh * 5 + kw) * 8 + c, h⟩) = w1 o c kh kw := by
    intro o kh kw c a b d h
    rw [← hw.one o kh kw c a b d (by omega)]
    pointwise [k0_pay78, k0_pay5]
  have ht : ∀ (k : Fin 200) (q : Fin 16384), k0_pay12 (k0_pay80 x0 x1) (k0_pay81 x0 x1) (k0_pay82 x0 x1) (k0_pay83 x0 x1) 1#32 (ix2 k q)
      = tap 5 8 2 128 (flat 2 2 128 128 (img x0)) k q := by
    refine taps1 _ _ _ _ _ ?_ ?_ ?_ ?_
    · intro c q; unfold k0_pay80; rw [hx]; exact flat1 x0 c q
    · intro c q; exact lane1 c q
    · intro c q; unfold k0_pay82; rw [hx]; exact (shifts1 x0 c q).1
    · intro c q; unfold k0_pay83; rw [hx]; exact (shifts1 x0 c q).2
  have hp := fun o q => (dots1 w1 (img x0) _ _ _ _ _ h2 ht o q).1
  have hn := fun o q => (dots1 w1 (img x0) _ _ _ _ _ h2 ht o q).2
  generalize hpp : (fun o q => conv 2 5 2 128 128 w1 (fun c a b => step (img x0 c a b)) o (q / 128) (q % 128)) = p
  have hp' : ∀ (o : Fin 30) (q : Fin 16384), k0_pay13 (k0_pay78 x0 x1) (k0_pay80 x0 x1) (k0_pay81 x0 x1) (k0_pay82 x0 x1) (k0_pay83 x0 x1) 1#32 (ix2 o q) = p o q := by
    subst hpp; exact hp
  unfold k0_pay84
  refine tail1 p (fun o q => conv 2 5 2 128 128 w1 (img x0) o (q / 128) (q % 128)) (layer 2 30 5 2 128 128 thr1 w1 (img x0)) _ _ _ _ _
    hp' hn ?_ ?_ ?_ ?_ c q
  · intro o q
    pointwise [k0_pay15]
    simp only [hp']
  · intro o q
    pointwise []
  · intro o q
    pointwise [k0_pay16, k0_pay15]
    simp only [hp']
  · intro o _ q _
    subst hpp
    rfl

/-- After the second layer and its pooling. -/
theorem after2 (hw : Wall w1 w2 w3 x1) (c : Fin 104) (q : Fin 1472) :
    k0_pay89 x0 x1 (ix2 c q) = flat 100 1 32 32 (net2 (img x0) w1 w2) c q := by
  have h4 : ∀ (o : Fin 100) (kh kw c : ℕ) (_ : kh < 3) (_ : kw < 3) (_ : c < 30) (h : (kh * 3 + kw) * 32 + c < 288),
      k0_pay6 (View.ld x1 r0_2) (ix2 o ⟨(kh * 3 + kw) * 32 + c, h⟩) = w2 o c kh kw := by
    intro o kh kw c a b d h
    rw [← hw.two o kh kw c a b d (by omega)]
    pointwise [k0_pay6]
  exact tail2 _ _ (fun r x => rows2 w2 (net1 (img x0) w1) _ _ h4 (after1 x0 x1 w1 w2 w3 hw) r x) c q

/-- After the third layer. -/
theorem after3 (hw : Wall w1 w2 w3 x1) (o : Fin 200) (q : Fin 1024) :
    k0_pay101 x0 x1 (ix2 o q) = net (img x0) w1 w2 w3 o (q / 32) (q % 32) := by
  have h6 : ∀ (o : Fin 200) (kh kw c : ℕ) (_ : kh < 3) (_ : kw < 3) (_ : c < 100) (h : (kh * 3 + kw) * 104 + c < 936),
      k0_pay79 x0 x1 (ix2 o ⟨(kh * 3 + kw) * 104 + c, h⟩) = w3 o c kh kw := by
    intro o kh kw c a b d h
    rw [← hw.three o kh kw c a b d h]
    pointwise [k0_pay79, k0_pay7]
  exact tail3 w3 (net2 (img x0) w1 w2) _ _ _ _ _ _ _ _ _ h6
    (taps3 _ _ _ _ _ (after2 x0 x1 w1 w2 w3 hw)) o q

end Cert.Snn

end
-- ==== Proof.KernelOut.lean ====
module

public import proofs.«01_k».proof.Proof.KernelNet
public import proofs.«01_k».proof.Proof.Gen.KernelIdeal.Value
public import Idealize.ShloMosaic.Lib.Pipeline.ValueKit

/-! The kernel's output block, row by row, and the array it ends in. -/

@[expose] public section

set_option maxRecDepth 16384

noncomputable section
namespace Cert.Snn
open Idealize.ShloMosaic Cert.KernelIdeal Cert.KernelIdeal.Gen Cert.KernelIdeal.Facts₀

/-- The output block as a function of the third layer's matrix: row `h` of the image is columns `32 h` to `32 h + 31`. -/
def rows (g : FVec Ideal S200x1024 .f32) : S200x32x32.Idx → EReal := fun x =>
  g (ix2 (x 0) ⟨32 * (x 1).val + (x 2).val, by have := (x 1).2; have := (x 2).2; simp at *; omega⟩)

/-- One entry of the output block. -/
theorem row_read (g : FVec Ideal S200x1024 .f32) (y : S200x32x32.Idx) (a : Fin 200) (b : Fin 1024) (ha : (y 0).val = a)
    (hb : 32 * (y 1).val + (y 2).val = b) : g (ix2 a b) = rows g y := by
  unfold rows
  congr 1
  exact congrArg₂ ix2 (Fin.ext ha.symm) (Fin.ext hb.symm)

/-- The thirty-two stored rows make up the output block. -/
theorem out_rows (x0 : Vec Ideal S2x128x128 .f32) (x1 : Vec Ideal S330x936 .f32) (x : S200x32x32.Idx) :
    out0_2 x0 x1 x = rows (k0_pay101 x0 x1) x := by
  unfold out0_2
  canon_tiles x h
  all_goals
    pointwise [k0_pay1, k0_pay2, k0_pay3, k0_pay4, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]
    exact row_read _ _ _ _ (by omega) (by dsimp only; omega)

end Cert.Snn

end
-- ==== Proof.Wall.lean ====
module

public import proofs.«01_k».proof.Proof.KernelNet
public import proofs.«01_k».proof.Proof.Gen.KernelIdeal.Value
public import Idealize.ShloMosaic.Lib.Pointwise
public import Idealize.ShloMosaic.Lib.StableHlo.RunRead

/-! The wall of filters the kernel is launched on, entry by entry. -/

@[expose] public section

set_option maxRecDepth 16384

noncomputable section
namespace Cert.Snn
open Idealize.ShloMosaic Cert.KernelIdeal Cert.KernelIdeal.Gen Cert.KernelIdeal.Facts₀

/-- The zero that pads. -/
def nil : FVec Ideal S_ .f32 := sitofp .f32 (constantI S_ 32 0#32)

/-- The first bank's rows. -/
def band1 (w : Vec Ideal S30x2x5x5 .f32) : FVec Ideal S30x936 .f32 :=
  pad S30x936 ![0, 0] ![0, 736] ![0, 0]
    (shapeCast S30x200 (pad S30x5x5x8 ![0, 0, 0, 0] ![0, 0, 0, 6] ![0, 0, 0, 0]
      (transpose S30x5x5x2 [0, 2, 3, 1] w Gen.transposes_S30x2x5x5_S30x5x5x2_0_2_3_1) nil
      Gen.pads_S30x5x5x2_S30x5x5x8_000_000_000_060 Gen.h_S_) Gen.shapeCasts_S30x5x5x8_S30x200) nil
    Gen.pads_S30x200_S30x936_000_07360 Gen.h_S_

/-- The second bank's rows. -/
def band2 (w : Vec Ideal S100x30x3x3 .f32) : FVec Ideal S100x936 .f32 :=
  pad S100x936 ![0, 0] ![0, 648] ![0, 0]
    (shapeCast S100x288 (pad S100x3x3x32 ![0, 0, 0, 0] ![0, 0, 0, 2] ![0, 0, 0, 0]
      (transpose S100x3x3x30 [0, 2, 3, 1] w Gen.transposes_S100x30x3x3_S100x3x3x30_0_2_3_1) nil
      Gen.pads_S100x3x3x30_S100x3x3x32_000_000_000_020 Gen.h_S_) Gen.shapeCasts_S100x3x3x32_S100x288) nil
    Gen.pads_S100x288_S100x936_000_06480 Gen.h_S_

/-- The third bank's rows. -/
def band3 (w : Vec Ideal S200x100x3x3 .f32) : FVec Ideal S200x936 .f32 :=
  shapeCast S200x936 (pad S200x3x3x104 ![0, 0, 0, 0] ![0, 0, 0, 4] ![0, 0, 0, 0]
    (transpose S200x3x3x100 [0, 2, 3, 1] w Gen.transposes_S200x100x3x3_S200x3x3x100_0_2_3_1) nil
    Gen.pads_S200x3x3x100_S200x3x3x104_000_000_000_040 Gen.h_S_) Gen.shapeCasts_S200x3x3x104_S200x936

/-- One entry of a filter bank. -/
theorem bank_read {a b c d : ℕ} (X : (⟨4, ![a, b, c, d]⟩ : Shape).Idx → EReal) (i : Fin a) (j : Fin b) (k : Fin c) (l : Fin d)
    {i' j' k' l' : ℕ} (hi : (i : ℕ) = i') (hj : (j : ℕ) = j') (hk : (k : ℕ) = k') (hl : (l : ℕ) = l') :
    X (ix4 i j k l) = bank X i' j' k' l' := by
  subst hi hj hk hl
  exact (bank_apply X i j k l).symm

/-- Three equal pieces make equal stacks. -/
theorem stack3 {α : Type} {s a b c : Shape} {d : Fin s.rank} {x x' : a.Idx → α} {y y' : b.Idx → α} {z z' : c.Idx → α} {h h'} (hx : x = x')
    (hy : y = y') (hz : z = z') : concatenate s d [⟨a, x⟩, ⟨b, y⟩, ⟨c, z⟩] h = concatenate s d [⟨a, x'⟩, ⟨b, y'⟩, ⟨c, z'⟩] h' := by
  subst hx hy hz; rfl

variable (m : (ℓ : Loc nD τ sig) → Buf (Elt Ideal) ℓ)

/-- What the second window's array holds when the kernel starts. -/
theorem wall_eq (d : Dev nD) : (V m d main_v11 : Vec Ideal S330x936 .f32)
    = concatenate S330x936 0 [⟨S30x936, band1 (m (d.tc.loc main_arg1))⟩, ⟨S100x936, band2 (m (d.tc.loc main_arg2))⟩,
        ⟨S200x936, band3 (m (d.tc.loc main_arg3))⟩] Gen.concatenates_S30x936_S100x936_S200x936_S330x936_d0 := by
  unfold V
  simp only [List.flatten_cons, List.flatten_nil, List.append_nil]
  after_reads_simp
  refine stack3 ?_ ?_ ?_
  · change StableHlo.upto _ _ _ (Proc.devRef .tc main_v9) = _
    after_reads_simp
    rfl
  · change StableHlo.upto _ _ _ (Proc.devRef .tc main_v10) = _
    after_reads_simp
    rfl
  · change StableHlo.upto _ _ _ (Proc.devRef .tc main_v8) = _
    after_reads_simp
    rfl

/-- The wall holds the three banks of the arguments. -/
theorem wall_at (d : Dev nD) : Wall (bank (m (d.tc.loc main_arg1) : Vec Ideal S30x2x5x5 .f32))
    (bank (m (d.tc.loc main_arg2) : Vec Ideal S100x30x3x3 .f32)) (bank (m (d.tc.loc main_arg3) : Vec Ideal S200x100x3x3 .f32))
    (V m d main_v11) := by
  rw [wall_eq]
  constructor
  · intro o kh kw c _ _ _ h
    pointwise [band1]
    refine (dif_pos (by omega)).trans ((dif_pos (by omega)).trans ?_)
    exact bank_read _ _ _ _ _ rfl (by dsimp only; omega) (by dsimp only; omega) (by dsimp only; omega)
  · intro o kh kw c _ _ _ h
    pointwise [band2]
    refine (dif_pos (by omega)).trans ((dif_pos (by omega)).trans ?_)
    exact bank_read _ _ _ _ _ rfl (by dsimp only; omega) (by dsimp only; omega) (by dsimp only; omega)
  · intro o kh kw c _ _ _ h
    pointwise [band3]
    refine (dif_neg (by omega)).trans ((dif_neg (by omega)).trans ((dif_pos (by omega)).trans ?_))
    exact bank_read _ _ _ _ _ (by dsimp only; omega) (by dsimp only; omega) (by dsimp only; omega) (by dsimp only; omega)

end Cert.Snn
end
-- ==== Proof.KernelArr.lean ====
module

public import proofs.«01_k».proof.Proof.KernelOut
public import proofs.«01_k».proof.Proof.Wall

/-! The array the kernel's region leaves. -/

@[expose] public section

set_option maxRecDepth 16384

noncomputable section
namespace Cert.Snn
open Idealize.ShloMosaic Cert.KernelIdeal Cert.KernelIdeal.Gen Cert.KernelIdeal.Facts₀

variable (m : (ℓ : Loc nD τ sig) → Buf (Elt Ideal) ℓ)

/-- The kernel's result array is the network of its four arguments. -/
theorem kernel_arr (d : Dev nD) : (dats m 0 d).arrAt 2 cfg0.N = fun x : S200x32x32.Idx =>
    net (img (m (d.tc.loc main_arg0) : Vec Ideal S2x128x128 .f32)) (bank (m (d.tc.loc main_arg1) : Vec Ideal S30x2x5x5 .f32))
      (bank (m (d.tc.loc main_arg2) : Vec Ideal S100x30x3x3 .f32)) (bank (m (d.tc.loc main_arg3) : Vec Ideal S200x100x3x3 .f32))
      (x 0) (x 1) (x 2) := by
  refine (dats m 0 d).arrAt_eq_of_after_last 2 t0_0 (by decide +kernel) _ fun j => ?_
  blk_simp
  rw [after0_2]
  have h0 : iblk m d 0 t0_0 = (m (d.tc.loc main_arg0) : Vec Ideal S2x128x128 .f32) := by
    rw [← V_main_arg0 m d]
    funext x
    show V m d main_arg0 _ = V m d main_arg0 x
    refine congrArg _ (funext fun a => Fin.ext ?_)
    fin_cases a <;> exact (congrArg (_ + ·) (Nat.one_mul _)).trans (Nat.zero_add _)
  have h1 : iblk m d 1 t0_0 = (V m d main_v11 : Vec Ideal S330x936 .f32) := by
    funext x
    show V m d main_v11 _ = V m d main_v11 x
    refine congrArg _ (funext fun a => Fin.ext ?_)
    fin_cases a <;> exact (congrArg (_ + ·) (Nat.one_mul _)).trans (Nat.zero_add _)
  rw [h0, h1]
  refine (out_rows _ _ j).trans ((after3 _ _ _ _ _ (wall_at m d) _ _).trans ?_)
  have h2 : (j 2).val < 32 := (j 2).2
  dsimp only
  rw [show (32 * (j 1).val + (j 2).val) / 32 = (j 1).val by omega, show (32 * (j 1).val + (j 2).val) % 32 = (j 2).val by omega]

end Cert.Snn

end
-- ==== Proof.Winner.lean ====
/-
  The winner of a column as the reference finds it: the first place of the greatest entry of the softmax, where some
  potential fires, and of the potentials, where none does.
-/
module

public import proofs.«01_k».proof.Proof.Spec
public import proofs.«01_k».proof.Proof.Words
public import Idealize.ShloMosaic.Lib.Routing.OpsOrder
public import Idealize.ShloMosaic.Lib.Routing.Words
public import Idealize.ShloMosaic.Lib.WordCmp

@[expose] public section

noncomputable section

open scoped BigOperators

namespace Cert.Snn

open Idealize.ShloMosaic Idealize.ShloMosaic.WordCmp Idealize.ShloMosaic.Routing

/-- A bit that is not one is zero. -/
theorem bit_of_ne_one {b : BitVec 1} (h : b ≠ 1#1) : b = 0#1 := by
  revert h
  revert b
  decide

/-- The number of a bit. -/
theorem uitofp_decide (P : Prop) [Decidable P] :
    (FloatOps.uitofp (F := Ideal) .f32 (BitVec.ofBool (decide P)) : EReal) = if P then 1 else 0 := by
  have e : ∀ b : BitVec 1, (FloatOps.uitofp (F := Ideal) .f32 b : EReal) = ((b.toNat : ℝ) : EReal) := fun _ => rfl
  rw [e]
  by_cases h : P <;> simp [h]

/-- Of numbers below infinity, one at least above minus infinity, the quotients of the exponentials by their sum are ordered as
    the numbers are. -/
theorem softmax_lt {n : ℕ} (p : Fin n → EReal) (hp : ∀ x, p x ≠ ⊤) (hy : ∃ y, p y ≠ ⊥) (M : EReal) (i j : Fin n)
    (hM : M = max (Ideal.ofBits .f32 4286578688#32) (Finset.fold max (Ideal.ofBits .f32 4286578688#32) (fun x => p x) Finset.univ)) :
    Ideal.div (Ideal.exp (p i - M)) (∑ x, Ideal.exp (p x - M)) < Ideal.div (Ideal.exp (p j - M)) (∑ x, Ideal.exp (p x - M))
      ↔ p i < p j := by
  obtain ⟨y, hy⟩ := hy
  obtain ⟨μ, rfl⟩ : ∃ μ : ℝ, M = μ := by
    have h1 : p y ≤ M := by
      rw [hM]
      exact le_max_of_le_right (Finset.le_fold_max _ |>.mpr (.inr ⟨y, Finset.mem_univ _, le_rfl⟩))
    have h2 : M < ⊤ := by
      rw [hM, ofBits_neg_inf, max_eq_right bot_le]
      exact (Finset.fold_max_lt _).mpr ⟨bot_lt_top, fun x _ => (hp x).lt_top⟩
    exact ⟨M.toReal, (EReal.coe_toReal h2.ne (ne_bot_of_le_ne_bot hy h1)).symm⟩
  have hexp : ∀ x, ∃ e : ℝ, Ideal.exp (p x - (μ : EReal)) = (e : EReal)
      ∧ ((p x = ⊥ ∧ e = 0) ∨ ∃ r : ℝ, p x = r ∧ e = Real.exp (r - μ)) := by
    intro x
    by_cases hx : p x = ⊥
    · refine ⟨0, ?_, .inl ⟨hx, rfl⟩⟩
      rw [hx, EReal.bot_sub]
      rfl
    · refine ⟨Real.exp ((p x).toReal - μ), ?_, .inr ⟨(p x).toReal, (EReal.coe_toReal (hp x) hx).symm, rfl⟩⟩
      conv_lhs => rw [← EReal.coe_toReal (hp x) hx, ← EReal.coe_sub]
      rfl
  choose e he hcase using hexp
  have hnn : ∀ x, 0 ≤ e x := fun x => by
    rcases hcase x with ⟨-, h⟩ | ⟨r, -, h⟩
    · exact h.ge
    · exact h ▸ (Real.exp_pos _).le
  have hypos : 0 < e y := by
    rcases hcase y with ⟨h, -⟩ | ⟨r, -, h⟩
    · exact absurd h hy
    · exact h ▸ Real.exp_pos _
  simp only [he]
  have hs : (∑ x, ((e x : ℝ) : EReal)) = ((∑ x, e x : ℝ) : EReal) := by
    induction (Finset.univ : Finset (Fin n)) using Finset.induction_on with
    | empty => rfl
    | insert a s ha ih => rw [Finset.sum_insert ha, Finset.sum_insert ha, ih, EReal.coe_add]
  have hpos : (0 : ℝ) < ∑ x, e x := Finset.sum_pos' (fun x _ => hnn x) ⟨y, Finset.mem_univ _, hypos⟩
  rw [hs]
  have hd : ∀ a : ℝ, Ideal.div (a : EReal) ((∑ x, e x : ℝ) : EReal) = ((a / ∑ x, e x : ℝ) : EReal) := by
    intro a
    unfold Ideal.div
    rw [if_neg (by exact_mod_cast hpos.ne'), div_eq_mul_inv, EReal.coe_mul, EReal.coe_inv]
  rw [hd, hd, EReal.coe_lt_coe_iff, div_lt_div_iff_of_pos_right hpos]
  rcases hcase i with ⟨hi, ei⟩ | ⟨r, hi, ei⟩ <;> rcases hcase j with ⟨hj, ej⟩ | ⟨t, hj, ej⟩ <;> rw [hi, hj, ei, ej]
  · exact iff_of_false (lt_irrefl _) (lt_irrefl _)
  · exact iff_of_true (Real.exp_pos _) (EReal.bot_lt_coe _)
  · exact iff_of_false (Real.exp_pos _).le.not_gt not_lt_bot
  · rw [Real.exp_lt_exp, EReal.coe_lt_coe_iff]
    exact sub_lt_sub_iff_right μ

/-- The product of the winner's mark, the mark that some potential fires, and a quotient is the spike: the mark is set at
    the first place of the greatest softmax where a potential fires, and at the first place of the greatest potential
    where none does. -/
theorem winner {O : ℕ} (hO : O < 2 ^ 31) (thr num e : EReal) (he : e = eps) (p : ℕ → EReal) (hp : ∀ x : Fin O, p x ≠ ⊤)
    (q : Fin O → EReal) (k o : Fin O) (w : BitVec 32) (hw : w = BitVec.ofNat 32 k)
    (hq : ∀ x : Fin O, q x = Scalar.select
      (Finset.fold IntOp.ori 0#1 (fun x : Fin O => BitVec.ofBool (decide (thr < p x))) Finset.univ)
      (Ideal.div (Ideal.exp (p x - max (Ideal.ofBits .f32 4286578688#32) (Finset.fold max (Ideal.ofBits .f32 4286578688#32) (fun x : Fin O => p x) Finset.univ)))
        (∑ y : Fin O, Ideal.exp (p y - max (Ideal.ofBits .f32 4286578688#32) (Finset.fold max (Ideal.ofBits .f32 4286578688#32) (fun x : Fin O => p x) Finset.univ))))
      (p x))
    (h1 : ∀ j, q j ≤ q k) (h2 : ∀ j < k, q j < q k) :
    FloatOps.uitofp (F := Ideal) .f32 (IntOp.cmpi .eq w (BitVec.ofNat 32 o))
        * FloatOps.uitofp (F := Ideal) .f32 (Finset.fold IntOp.ori 0#1 (fun x : Fin O => BitVec.ofBool (decide (thr < p x))) Finset.univ)
        * Ideal.div num (max (p o) e)
      = (spike O thr p num o : EReal) := by
  subst he hw
  by_cases hf : ∃ x : Fin O, thr < p x
  · have hfold : Finset.fold IntOp.ori 0#1 (fun x : Fin O => BitVec.ofBool (decide (thr < p x))) Finset.univ = 1#1 := by
      obtain ⟨x, hx⟩ := hf
      exact (fold_ori _ _).mpr ⟨x, Finset.mem_univ _, (ofBool_eq_one_iff _).mpr (decide_eq_true hx)⟩
    rw [hfold] at hq ⊢
    have hlt : ∀ i j : Fin O, q i < q j ↔ p i < p j := by
      intro i j
      rw [hq i, hq j]
      obtain ⟨y, hy⟩ := hf
      exact softmax_lt (fun x : Fin O => p x) hp ⟨y, hy.ne_bot⟩ _ i j rfl
    have hle : ∀ i j : Fin O, q i ≤ q j ↔ p i ≤ p j := fun i j => by
      rw [← not_lt, ← not_lt, hlt]
    have g1 : ∀ j : Fin O, p j ≤ p k := fun j => (hle _ _).mp (h1 j)
    have g2 : ∀ j < k, p j < p k := fun j hj => (hlt _ _).mp (h2 j hj)
    have e1 : (FloatOps.uitofp (F := Ideal) .f32 (1#1) : EReal) = 1 := by simpa using uitofp_decide True
    rw [e1, cmpi_eq_ofNat (by simp; omega) (by simp; omega), uitofp_decide]
    unfold spike
    by_cases hk : k = o
    · subst hk
      obtain ⟨x, hx⟩ := hf
      rw [if_pos rfl, if_pos, one_mul, one_mul]
      exact ⟨fun j hj => g1 ⟨j, hj⟩, fun j hj => g2 ⟨j, hj.trans k.2⟩ hj, hx.trans_le (g1 x)⟩
    · rw [if_neg (fun h => hk (Fin.ext h)), if_neg, zero_mul, zero_mul]
      rintro ⟨c1, c2, -⟩
      rcases lt_trichotomy k o with h | h | h
      · exact absurd (g1 o) (not_le.mpr (c2 k h))
      · exact hk h
      · exact absurd (c1 k k.2) (not_le.mpr (g2 o h))
  · have hfold : Finset.fold IntOp.ori 0#1 (fun x : Fin O => BitVec.ofBool (decide (thr < p x))) Finset.univ = 0#1 := by
      refine bit_of_ne_one fun h => hf ?_
      obtain ⟨x, -, hx⟩ := (fold_ori _ _).mp h
      exact ⟨x, of_decide_eq_true ((ofBool_eq_one_iff _).mp hx)⟩
    have e0 : (FloatOps.uitofp (F := Ideal) .f32 (0#1) : EReal) = 0 := by simpa using uitofp_decide False
    rw [hfold, e0, mul_zero, zero_mul]
    unfold spike
    rw [if_neg]
    rintro ⟨-, -, h⟩
    exact hf ⟨o, h⟩

end Cert.Snn

end
-- ==== Proof.Top.lean ====
module

public import Idealize.ShloMosaic.PureOps
public import Idealize.ShloMosaic.PureOps.Ideal.Laws
public import Idealize.ShloMosaic.Lib.Pointwise
public import Idealize.ShloMosaic.Lib.WordCmp

/-! The position that a top-one of the last axis picks: the first of the greatest. -/

@[expose] public section

noncomputable section
namespace Cert.Snn
open Idealize.ShloMosaic

/-- The head of a list sorted by decreasing `f`, equal ones in their order: nothing in the list is greater, and what stood before it is smaller. -/
theorem sort_head {ι : Type} (f : ι → EReal) (before : ι → ι → Bool) (hb : ∀ i j, before i j = true ↔ f j < f i) (a : ι) (l : List ι) :
    ∃ l₁ k l₂ t, a :: l = l₁ ++ k :: l₂ ∧ stableSort before (a :: l) = k :: t ∧ (∀ j ∈ l₁, f j < f k) ∧ ∀ j ∈ a :: l, f j ≤ f k := by
  induction l generalizing a with
  | nil => exact ⟨[], a, [], [], rfl, rfl, by simp, by simp⟩
  | cons b l ih =>
    obtain ⟨l₁, k, l₂, t, e, es, h1, h2⟩ := ih b
    have hs : stableSort before (a :: b :: l) = insertBefore before a (k :: t) := by
      rw [← es]; rfl
    by_cases h : before k a = true
    · refine ⟨a :: l₁, k, l₂, insertBefore before a t, by rw [e]; rfl, ?_, ?_, ?_⟩
      · rw [hs, insertBefore, if_pos h]
      · intro j hj
        rcases List.mem_cons.mp hj with rfl | hj
        · exact (hb _ _).mp h
        · exact h1 j hj
      · intro j hj
        rcases List.mem_cons.mp hj with rfl | hj
        · exact ((hb _ _).mp h).le
        · exact h2 j hj
    · refine ⟨[], a, b :: l, k :: t, rfl, ?_, by simp, ?_⟩
      · rw [hs, insertBefore, if_neg h]
      · have hka : f k ≤ f a := not_lt.mp fun hlt => h ((hb _ _).mpr hlt)
        intro j hj
        rcases List.mem_cons.mp hj with rfl | hj
        · exact le_rfl
        · exact (h2 j hj).trans hka

/-- The first position of a sort by decreasing `f` is the first of the greatest. -/
theorem sorted_first {n : ℕ} (hn : 0 < n) (f : Fin n → EReal) (before : Fin n → Fin n → Bool) (hb : ∀ i j, before i j = true ↔ f j < f i) :
    (∀ j, f j ≤ f (sortedFrom before ⟨0, hn⟩)) ∧ ∀ j < sortedFrom before ⟨0, hn⟩, f j < f (sortedFrom before ⟨0, hn⟩) := by
  obtain ⟨m, rfl⟩ : ∃ m, n = m + 1 := ⟨n - 1, by omega⟩
  obtain ⟨l₁, k, l₂, t, e, es, h1, h2⟩ := sort_head f before hb 0 ((List.finRange m).map Fin.succ)
  rw [← List.finRange_succ] at e es h2
  have hk : sortedFrom before ⟨0, hn⟩ = k := by
    have hp : sortPositions (m + 1) before = k :: t := es
    unfold sortedFrom
    rw [List.get_eq_getElem]
    simp only [hp]
    rfl
  rw [hk]
  refine ⟨fun j => h2 j (List.mem_finRange j), fun j hj => h1 j ?_⟩
  have hm : j ∈ l₁ ++ k :: l₂ := e ▸ List.mem_finRange j
  have hs : (l₁ ++ k :: l₂).Pairwise (· < ·) := e ▸ List.pairwise_lt_finRange _
  rcases List.mem_append.mp hm with h | h
  · exact h
  · exfalso
    rcases List.mem_cons.mp h with rfl | h
    · exact lt_irrefl _ hj
    · exact lt_asymm hj ((List.pairwise_cons.mp (List.pairwise_append.mp hs).2.1).1 j h)

/-- The index of the greatest along the last axis is the word of the first position that nothing exceeds. -/
theorem top_first {A B N : ℕ} (hN : 0 < N) (x : (⟨3, ![A, B, N]⟩ : Shape).Idx → Ideal .f32)
    (h : (⟨3, ![A, B, N]⟩ : Shape).Slices (fun _ => 0) ⟨3, ![A, B, 1]⟩) (a : Fin A) (b : Fin B) :
    ∃ k : Fin N, (Host.topK ⟨3, ![A, B, 1]⟩ 2 (FloatOps.cmpfTotal (F := Ideal) .gt) x h).2 (ix3 a b (0 : Fin 1)) = BitVec.ofNat 32 k
      ∧ (∀ j : Fin N, x (ix3 a b j) ≤ x (ix3 a b k)) ∧ ∀ j < k, x (ix3 a b j) < x (ix3 a b k) := by
  have hal : ∀ k : Fin N, (ix3 a b (⟨0, hN⟩ : Fin N)).along (2 : Fin 3) k = ix3 a b k := by
    intro k
    funext c
    fin_cases c <;> rfl
  have hb := sorted_first hN (fun j => x (ix3 a b j))
    (fun k k' => FloatOps.cmpfTotal (F := Ideal) .gt (x (ix3 a b k)) (x (ix3 a b k')) == 1#1) (by
      intro i j
      rw [beq_iff_eq]
      show BitVec.ofBool (decide (x (ix3 a b j) < x (ix3 a b i))) = 1#1 ↔ _
      exact (WordCmp.ofBool_eq_one_iff _).trans decide_eq_true_iff)
  refine ⟨_, ?_, hb⟩
  have hi : (fun c => ⟨0 + (ix3 a b (0 : Fin 1) (c.cast h.1.symm)).val,
      Nat.lt_of_lt_of_le (Nat.add_lt_add_left (ix3 a b (0 : Fin 1) (c.cast h.1.symm)).isLt _) (h.2 c)⟩ : (⟨3, ![A, B, N]⟩ : Shape).Idx)
        = ix3 a b (⟨0, hN⟩ : Fin N) := by
    funext c
    fin_cases c <;> exact Fin.ext (Nat.zero_add _)
  have e1 : (Host.topK ⟨3, ![A, B, 1]⟩ 2 (FloatOps.cmpfTotal (F := Ideal) .gt) x h).2 (ix3 a b (0 : Fin 1))
      = (fun j : (⟨3, ![A, B, N]⟩ : Shape).Idx => BitVec.ofNat 32
          (sortedFrom (fun k k' : Fin N => FloatOps.cmpfTotal (F := Ideal) .gt (x (j.along (2 : Fin 3) k)) (x (j.along (2 : Fin 3) k')) == 1#1) (j 2)).val)
        (fun c => ⟨0 + (ix3 a b (0 : Fin 1) (c.cast h.1.symm)).val,
          Nat.lt_of_lt_of_le (Nat.add_lt_add_left (ix3 a b (0 : Fin 1) (c.cast h.1.symm)).isLt _) (h.2 c)⟩) := by
    rfl
  rw [e1, hi]
  simp only [hal]
  rfl

end Cert.Snn

end
-- ==== Proof.Window.lean ====
module

public import proofs.«01_k».proof.Proof.Spec
public import proofs.«01_k».proof.Proof.Words
public import Idealize.ShloMosaic.PureOps
public import Idealize.ShloMosaic.Lib.Pointwise

/-! The greatest of each two-by-two window. -/

@[expose] public section

noncomputable section
namespace Cert.Snn
open Idealize.ShloMosaic

/-- One entry of a stack of images. -/
theorem img_read {a b c : ℕ} (X : (⟨3, ![a, b, c]⟩ : Shape).Idx → EReal) (x : (⟨3, ![a, b, c]⟩ : Shape).Idx)
    {i j k : ℕ} (hi : (x 0).val = i) (hj : (x 1).val = j) (hk : (x 2).val = k) : X x = img X i j k := by
  subst hi hj hk
  rw [eq_ix3 x]
  exact (img_apply X _ _ _).symm

/-- The four offsets of a two-by-two window, in row-major order. -/
theorem four :
    (((⟨3, ![1, 2, 2]⟩ : Shape).rowMajor.symm ⟨0, by decide⟩ 1).val = 0 ∧ ((⟨3, ![1, 2, 2]⟩ : Shape).rowMajor.symm ⟨0, by decide⟩ 2).val = 0)
      ∧ (((⟨3, ![1, 2, 2]⟩ : Shape).rowMajor.symm ⟨1, by decide⟩ 1).val = 0 ∧ ((⟨3, ![1, 2, 2]⟩ : Shape).rowMajor.symm ⟨1, by decide⟩ 2).val = 1)
      ∧ (((⟨3, ![1, 2, 2]⟩ : Shape).rowMajor.symm ⟨2, by decide⟩ 1).val = 1 ∧ ((⟨3, ![1, 2, 2]⟩ : Shape).rowMajor.symm ⟨2, by decide⟩ 2).val = 0)
      ∧ (((⟨3, ![1, 2, 2]⟩ : Shape).rowMajor.symm ⟨3, by decide⟩ 1).val = 1 ∧ ((⟨3, ![1, 2, 2]⟩ : Shape).rowMajor.symm ⟨3, by decide⟩ 2).val = 1) := by
  decide +kernel

/-- The maximum of four numbers taken one after another. -/
theorem fold_four {n : ℕ} (hn : n = 4) (g : Fin n → EReal) (v : EReal) :
    (List.finRange n).foldl (fun r i => max r (g i)) v
      = max (max (max (max v (g ⟨0, by omega⟩)) (g ⟨1, by omega⟩)) (g ⟨2, by omega⟩)) (g ⟨3, by omega⟩) := by
  subst hn
  rfl

/-- The window's maximum from minus infinity, at two-by-two windows set side by side, is the pooled image. -/
theorem pool_window {C H2 W2 H W : ℕ} (hH : 2 * H = H2) (hW : 2 * W = W2) (x : (⟨3, ![C, H2, W2]⟩ : Shape).Idx → EReal)
    {u : Shape} (init : u.Idx → EReal) (h : (⟨3, ![C, H2, W2]⟩ : Shape).ReduceWindows ![1, 2, 2] ![1, 2, 2] ![0, 0, 0] ![0, 0, 0] ⟨3, ![C, H, W]⟩)
    (hu : 0 < u.numel) (hi : init (Shape.Idx.first hu) = ⊥) (c : Fin C) (a : Fin H) (b : Fin W) :
    Host.reduceWindow max ![1, 2, 2] ![1, 2, 2] ![0, 0, 0] ![0, 0, 0] x init h hu (ix3 c a b) = pool (img x) c a b := by
  have ha := a.2
  have hb := b.2
  have hc := c.2
  have key : ∀ (w : (⟨3, ![1, 2, 2]⟩ : Shape).Idx) (i j : ℕ) (_ : (w 1).val = i) (_ : (w 2).val = j)
      (dec : Decidable (∀ d : Fin 3, (![0, 0, 0] : Fin 3 → ℕ) d ≤ (ix3 c a b (d.cast rfl)).val * (![1, 2, 2] : Fin 3 → ℕ) d + (w d).val
          ∧ (ix3 c a b (d.cast rfl)).val * (![1, 2, 2] : Fin 3 → ℕ) d + (w d).val - (![0, 0, 0] : Fin 3 → ℕ) d < (⟨3, ![C, H2, W2]⟩ : Shape).size d)),
      (if hin : ∀ d : Fin 3, (![0, 0, 0] : Fin 3 → ℕ) d ≤ (ix3 c a b (d.cast rfl)).val * (![1, 2, 2] : Fin 3 → ℕ) d + (w d).val
          ∧ (ix3 c a b (d.cast rfl)).val * (![1, 2, 2] : Fin 3 → ℕ) d + (w d).val - (![0, 0, 0] : Fin 3 → ℕ) d < (⟨3, ![C, H2, W2]⟩ : Shape).size d then
        x (fun d => ⟨(ix3 c a b (d.cast rfl)).val * (![1, 2, 2] : Fin 3 → ℕ) d + (w d).val - (![0, 0, 0] : Fin 3 → ℕ) d, (hin d).2⟩)
      else init (Shape.Idx.first hu)) = img x c (2 * a + i) (2 * b + j) := by
    intro w i j h1 h2 dec
    have w0 : (w 0).val < 1 := (w 0).2
    have w1 : (w 1).val < 2 := (w 1).2
    have w2 : (w 2).val < 2 := (w 2).2
    rw [dif_pos]
    · refine img_read x _ ?_ ?_ ?_
      · show c.val * 1 + (w 0).val - 0 = c.val
        omega
      · show a.val * 2 + (w 1).val - 0 = _
        omega
      · show b.val * 2 + (w 2).val - 0 = _
        omega
    · intro d
      refine ⟨Nat.zero_le _ |>.trans' (by fin_cases d <;> exact Nat.le_refl 0), ?_⟩
      fin_cases d
      · show c.val * 1 + (w 0).val - 0 < C
        omega
      · show a.val * 2 + (w 1).val - 0 < H2
        omega
      · show b.val * 2 + (w 2).val - 0 < W2
        omega
  unfold Host.reduceWindow
  dsimp only
  refine (fold_four (by decide +kernel : (⟨3, ![1, 2, 2]⟩ : Shape).numel = 4) _ _).trans ?_
  have e : max (max (max (max (init (Shape.Idx.first hu)) (img x c (2 * a + 0) (2 * b + 0))) (img x c (2 * a + 0) (2 * b + 1)))
      (img x c (2 * a + 1) (2 * b + 0))) (img x c (2 * a + 1) (2 * b + 1)) = pool (img x) c a b := by
    rw [hi]
    unfold pool
    simp [max_assoc]
  exact (congrArg₂ max (congrArg₂ max (congrArg₂ max (congrArg₂ max rfl (key _ 0 0 four.1.1 four.1.2 _))
    (key _ 0 1 four.2.1.1 four.2.1.2 _)) (key _ 1 0 four.2.2.1.1 four.2.2.1.2 _)) (key _ 1 1 four.2.2.2.1 four.2.2.2.2 _)).trans e

end Cert.Snn

end
-- ==== Proof.RefTap.lean ====
/-
  What the reference's padded frames and window sums mean: the frame reads the padded image, and the sum over the window
  offsets of products is the convolution.
-/
module

public import proofs.«01_k».proof.Proof.Winner
public import proofs.«01_k».proof.Proof.Wall
public import proofs.«01_k».proof.Proof.Top
public import proofs.«01_k».proof.Proof.Window

@[expose] public section

noncomputable section

open scoped BigOperators

namespace Cert.Snn

open Idealize.ShloMosaic

/-- A choice between an entry of the image and zero, made by whether the place lies inside the padding, reads the padded image. -/
theorem pad_choice {p H W c a b : ℕ} (f : Img) (Q : Prop) (dec : Decidable Q) (hQ : Q ↔ p ≤ a ∧ a < p + H ∧ p ≤ b ∧ b < p + W)
    (t : Q → EReal) (z : ¬ Q → EReal) (ht : ∀ hq, t hq = f c (a - p) (b - p)) (hz : ∀ hq, z hq = 0) :
    @dite EReal Q dec t z = padAt p H W f c a b := by
  unfold padAt
  by_cases hq : Q
  · rw [dif_pos hq, if_pos (hQ.mp hq), ht]
  · rw [dif_neg hq, if_neg (fun h => hq (hQ.mpr h)), hz]

/-- The bit of the comparison with zero, as a number, is the step. -/
theorem uitofp_step (x : EReal) :
    (FloatOps.uitofp (F := Ideal) .f32 (BitVec.ofBool (decide (0 < x))) : EReal) = step x := by
  rw [uitofp_decide]; rfl

/-- The zero word as a number. -/
theorem sitofp_zero : (FloatOps.sitofp (F := Ideal) .f32 (0#32) : EReal) = 0 := by
  have e : ∀ b : BitVec 32, (FloatOps.sitofp (F := Ideal) .f32 b : EReal) = ((b.toInt : ℝ) : EReal) := fun _ => rfl
  rw [e]; simp

/-- What one window offset adds to the convolution. -/
def tapSum (C p H W : ℕ) (w : Bank) (f : Img) (o h v kh kw : ℕ) : EReal :=
  ∑ c ∈ Finset.range C, w o c kh kw * padAt p H W f c (h + kh) (v + kw)

/-- The sum over the channels of the products at one window offset. -/
theorem tap_sum {O C K A B p H W : ℕ} (w : (⟨4, ![O, C, K, K]⟩ : Shape).Idx → EReal) (P : (⟨3, ![C, A, B]⟩ : Shape).Idx → EReal)
    (f : Img) (hP : ∀ (c : Fin C) (a : Fin A) (b : Fin B), P (ix3 c a b) = padAt p H W f c a b)
    (o : Fin O) (h v : ℕ) (kh kw : Fin K) (a : Fin A) (b : Fin B) (ha : a.val = h + kh) (hb : b.val = v + kw) :
    ∑ c : Fin C, w (ix4 o c kh kw) * P (ix3 c a b) = tapSum C p H W (bank w) f o h v kh kw := by
  unfold tapSum
  rw [Finset.sum_range]
  refine Finset.sum_congr rfl fun c _ => ?_
  rw [hP, ← bank_apply w, ha, hb]

/-- A convolution of a three-by-three window as its nine offsets. -/
theorem conv_three (C p H W : ℕ) (w : Bank) (f : Img) (o h v : ℕ) :
    let t := tapSum C p H W w f o h v
    t 0 0 + t 0 1 + t 0 2 + t 1 0 + t 1 1 + t 1 2 + t 2 0 + t 2 1 + t 2 2 = conv C 3 p H W w f o h v := by
  intro t
  have e : conv C 3 p H W w f o h v = ∑ kh ∈ Finset.range 3, ∑ kw ∈ Finset.range 3, t kh kw := rfl
  rw [e]
  simp only [Finset.sum_range_succ, Finset.sum_range_zero, zero_add, ← add_assoc]

/-- A convolution of a five-by-five window as its twenty-five offsets. -/
theorem conv_five (C p H W : ℕ) (w : Bank) (f : Img) (o h v : ℕ) :
    let t := tapSum C p H W w f o h v
    t 0 0 + t 0 1 + t 0 2 + t 0 3 + t 0 4 + t 1 0 + t 1 1 + t 1 2 + t 1 3 + t 1 4 + t 2 0 + t 2 1 + t 2 2 + t 2 3 + t 2 4
      + t 3 0 + t 3 1 + t 3 2 + t 3 3 + t 3 4 + t 4 0 + t 4 1 + t 4 2 + t 4 3 + t 4 4 = conv C 5 p H W w f o h v := by
  intro t
  have e : conv C 5 p H W w f o h v = ∑ kh ∈ Finset.range 5, ∑ kw ∈ Finset.range 5, t kh kw := rfl
  rw [e]
  simp only [Finset.sum_range_succ, Finset.sum_range_zero, zero_add, ← add_assoc]

/-- A finite sum of numbers other than infinity is not infinity. -/
theorem sum_ne_top {ι : Type} [DecidableEq ι] (s : Finset ι) (g : ι → EReal) (hg : ∀ i ∈ s, g i ≠ ⊤) : ∑ i ∈ s, g i ≠ ⊤ := by
  induction s using Finset.induction_on with
  | empty => exact EReal.zero_ne_top
  | insert a s ha ih =>
    rw [Finset.sum_insert ha]
    exact (EReal.add_lt_top (hg a (Finset.mem_insert_self _ _)) (ih fun i hi => hg i (Finset.mem_insert_of_mem hi))).ne

/-- The convolution of a stepped image with weights other than infinity is not infinity. -/
theorem conv_step_ne_top (C K p H W : ℕ) (w : Bank) (f : Img) (hw : ∀ a b c d, w a b c d ≠ ⊤) (o h v : ℕ) :
    conv C K p H W w (fun c a b => step (f c a b)) o h v ≠ ⊤ := by
  refine sum_ne_top _ _ fun kh _ => sum_ne_top _ _ fun kw _ => sum_ne_top _ _ fun c _ => ?_
  rw [padAt_step]
  unfold step
  split
  · rw [mul_one]
    exact hw _ _ _ _
  · rw [mul_zero]
    exact EReal.zero_ne_top

/-- A bank of weights other than infinity is not infinity at any place. -/
theorem bank_ne_top {a b c d : ℕ} (X : (⟨4, ![a, b, c, d]⟩ : Shape).Idx → EReal) (hX : ∀ x, X x ≠ ⊤) (i j k l : ℕ) :
    bank X i j k l ≠ ⊤ := by
  unfold bank
  split
  · exact hX _
  · exact EReal.zero_ne_top

/-- A layer: the winner's product, with the potentials and the weighted times the two convolutions. -/
theorem layer_at {C O K p H W : ℕ} (hO : O < 2 ^ 31) (thr : EReal) (w : Bank) (hw : ∀ a b c d, w a b c d ≠ ⊤) (f : Img)
    (h v : ℕ) (q : Fin O → EReal) (pot : Fin O → EReal) (num e : EReal) (he : e = eps) (k o : Fin O) (word : BitVec 32) (hword : word = BitVec.ofNat 32 k)
    (hpot : ∀ x : Fin O, pot x = conv C K p H W w (fun c a b => step (f c a b)) x h v)
    (hnum : num = conv C K p H W w f o h v)
    (hq : ∀ x : Fin O, q x = Scalar.select
      (Finset.fold IntOp.ori 0#1 (fun x : Fin O => BitVec.ofBool (decide (thr < pot x))) Finset.univ)
      (Ideal.div (Ideal.exp (pot x - max (Ideal.ofBits .f32 4286578688#32) (Finset.fold max (Ideal.ofBits .f32 4286578688#32) (fun x : Fin O => pot x) Finset.univ)))
        (∑ y : Fin O, Ideal.exp (pot y - max (Ideal.ofBits .f32 4286578688#32) (Finset.fold max (Ideal.ofBits .f32 4286578688#32) (fun x : Fin O => pot x) Finset.univ))))
      (pot x))
    (h1 : ∀ j, q j ≤ q k) (h2 : ∀ j < k, q j < q k) :
    FloatOps.uitofp (F := Ideal) .f32 (IntOp.cmpi .eq word (BitVec.ofNat 32 o))
        * FloatOps.uitofp (F := Ideal) .f32 (Finset.fold IntOp.ori 0#1 (fun x : Fin O => BitVec.ofBool (decide (thr < pot x))) Finset.univ)
        * Ideal.div num (max (pot o) e)
      = layer C O K p H W thr w f o h v := by
  have htop := fun x : Fin O => conv_step_ne_top C K p H W w f hw x h v
  have ep : pot = fun x : Fin O => (fun j => conv C K p H W w (fun c a b => step (f c a b)) j h v) x := funext hpot
  subst ep hnum
  exact winner hO thr _ e he (fun j => conv C K p H W w (fun c a b => step (f c a b)) j h v) htop q k o word hword hq h1 h2

end Cert.Snn

end
-- ==== Proof.Ref1.lean ====
/-
  The reference's first layer: its two padded frames, its two convolutions, the place it picks in each column, and the
  spike times it writes.
-/
module

public import proofs.«01_k».proof.Proof.RefTap
public import proofs.«01_k».proof.Proof.Gen.ReferenceIdeal.Read
public import Idealize.ShloMosaic.Lib.Pointwise

@[expose] public section

set_option maxRecDepth 16384
set_option maxHeartbeats 2000000

noncomputable section

open scoped BigOperators

namespace Cert.Snn

open Idealize.ShloMosaic Cert.ReferenceIdeal Cert.ReferenceIdeal.Gen Cert.ReferenceIdeal.Read

/-- The first layer's frame of steps reads the padded steps. -/
theorem ind_pad1 (x0 : Vec Ideal S2x128x128 .f32) (c : Fin 2) (a b : Fin 132) :
    val_main_v3 (F := Ideal) x0 (ix3 c a b) = padAt 2 128 128 (fun c a b => step (img x0 c a b)) c a b := by
  pointwise [val_main_cst, val_main_v0, val_main_v1, val_main_v2, val_main_c, val_main_call0_v0, val_main_v3]
  refine pad_choice (fun c a b => step (img x0 c a b)) _ _ (by omega) _ _ (fun _ => ?_) (fun _ => sitofp_zero)
  exact (uitofp_step _).trans (congrArg step (img_read _ _ rfl rfl rfl))

/-- The first layer's frame of times reads the padded times. -/
theorem time_pad1 (x0 : Vec Ideal S2x128x128 .f32) (c : Fin 2) (a b : Fin 132) :
    val_main_v153 (F := Ideal) x0 (ix3 c a b) = padAt 2 128 128 (img x0) c a b := by
  pointwise [val_main_c_6, val_main_call3_v0, val_main_v153]
  refine pad_choice (img x0) _ _ (by omega) _ _ (fun _ => ?_) (fun _ => sitofp_zero)
  exact img_read _ _ rfl rfl rfl

/-- The first layer's potentials are the convolution of the steps. -/
theorem ind_conv1 (x0 : Vec Ideal S2x128x128 .f32) (x1 : Vec Ideal S30x2x5x5 .f32) (o : Fin 30) (h v : Fin 128) :
    val_main_v129 (F := Ideal) x0 x1 (ix3 o h v) = conv 2 5 2 128 128 (bank x1) (fun c a b => step (img x0 c a b)) o h v := by
  pointwise [
    val_main_cst_0, val_main_v4, val_main_v5, val_main_v6, val_main_v7, val_main_v8, val_main_v9, val_main_v10,
    val_main_v11, val_main_v12, val_main_v13, val_main_v14, val_main_v15, val_main_v16, val_main_v17, val_main_v18,
    val_main_v19, val_main_v20, val_main_v21, val_main_v22, val_main_v23, val_main_v24, val_main_v25, val_main_v26,
    val_main_v27, val_main_v28, val_main_v29, val_main_v30, val_main_v31, val_main_v32, val_main_v33, val_main_v34,
    val_main_v35, val_main_v36, val_main_v37, val_main_v38, val_main_v39, val_main_v40, val_main_v41, val_main_v42,
    val_main_v43, val_main_v44, val_main_v45, val_main_v46, val_main_v47, val_main_v48, val_main_v49, val_main_v50,
    val_main_v51, val_main_v52, val_main_v53, val_main_v54, val_main_v55, val_main_v56, val_main_v57, val_main_v58,
    val_main_v59, val_main_v60, val_main_v61, val_main_v62, val_main_v63, val_main_v64, val_main_v65, val_main_v66,
    val_main_v67, val_main_v68, val_main_v69, val_main_v70, val_main_v71, val_main_v72, val_main_v73, val_main_v74,
    val_main_v75, val_main_v76, val_main_v77, val_main_v78, val_main_v79, val_main_v80, val_main_v81, val_main_v82,
    val_main_v83, val_main_v84, val_main_v85, val_main_v86, val_main_v87, val_main_v88, val_main_v89, val_main_v90,
    val_main_v91, val_main_v92, val_main_v93, val_main_v94, val_main_v95, val_main_v96, val_main_v97, val_main_v98,
    val_main_v99, val_main_v100, val_main_v101, val_main_v102, val_main_v103, val_main_v104, val_main_v105,
    val_main_v106, val_main_v107, val_main_v108, val_main_v109, val_main_v110, val_main_v111, val_main_v112,
    val_main_v113, val_main_v114, val_main_v115, val_main_v116, val_main_v117, val_main_v118, val_main_v119,
    val_main_v120, val_main_v121, val_main_v122, val_main_v123, val_main_v124, val_main_v125, val_main_v126,
    val_main_v127, val_main_v128, val_main_v129]
  refine Eq.trans ?_ (conv_five 2 2 128 128 (bank x1) (fun c a b => step (img x0 c a b)) o h v)
  iterate 24 refine congrArg₂ (· + ·) ?_ ?_
  all_goals
    exact tap_sum x1 _ (fun c a b => step (img x0 c a b)) (ind_pad1 x0) o h v _ _ _ _ (by first | rfl | exact Nat.add_comm _ _)
      (by first | rfl | exact Nat.add_comm _ _)

/-- The first layer's weighted times are the convolution of the times. -/
theorem time_conv1 (x0 : Vec Ideal S2x128x128 .f32) (x1 : Vec Ideal S30x2x5x5 .f32) (o : Fin 30) (h v : Fin 128) :
    val_main_v279 (F := Ideal) x0 x1 (ix3 o h v) = conv 2 5 2 128 128 (bank x1) (img x0) o h v := by
  pointwise [
    val_main_cst_7, val_main_v154, val_main_v155, val_main_v156, val_main_v157, val_main_v158, val_main_v159,
    val_main_v160, val_main_v161, val_main_v162, val_main_v163, val_main_v164, val_main_v165, val_main_v166,
    val_main_v167, val_main_v168, val_main_v169, val_main_v170, val_main_v171, val_main_v172, val_main_v173,
    val_main_v174, val_main_v175, val_main_v176, val_main_v177, val_main_v178, val_main_v179, val_main_v180,
    val_main_v181, val_main_v182, val_main_v183, val_main_v184, val_main_v185, val_main_v186, val_main_v187,
    val_main_v188, val_main_v189, val_main_v190, val_main_v191, val_main_v192, val_main_v193, val_main_v194,
    val_main_v195, val_main_v196, val_main_v197, val_main_v198, val_main_v199, val_main_v200, val_main_v201,
    val_main_v202, val_main_v203, val_main_v204, val_main_v205, val_main_v206, val_main_v207, val_main_v208,
    val_main_v209, val_main_v210, val_main_v211, val_main_v212, val_main_v213, val_main_v214, val_main_v215,
    val_main_v216, val_main_v217, val_main_v218, val_main_v219, val_main_v220, val_main_v221, val_main_v222,
    val_main_v223, val_main_v224, val_main_v225, val_main_v226, val_main_v227, val_main_v228, val_main_v229,
    val_main_v230, val_main_v231, val_main_v232, val_main_v233, val_main_v234, val_main_v235, val_main_v236,
    val_main_v237, val_main_v238, val_main_v239, val_main_v240, val_main_v241, val_main_v242, val_main_v243,
    val_main_v244, val_main_v245, val_main_v246, val_main_v247, val_main_v248, val_main_v249, val_main_v250,
    val_main_v251, val_main_v252, val_main_v253, val_main_v254, val_main_v255, val_main_v256, val_main_v257,
    val_main_v258, val_main_v259, val_main_v260, val_main_v261, val_main_v262, val_main_v263, val_main_v264,
    val_main_v265, val_main_v266, val_main_v267, val_main_v268, val_main_v269, val_main_v270, val_main_v271,
    val_main_v272, val_main_v273, val_main_v274, val_main_v275, val_main_v276, val_main_v277, val_main_v278,
    val_main_v279]
  refine Eq.trans ?_ (conv_five 2 2 128 128 (bank x1) (img x0) o h v)
  iterate 24 refine congrArg₂ (· + ·) ?_ ?_
  all_goals
    exact tap_sum x1 _ (img x0) (time_pad1 x0) o h v _ _ _ _ (by first | rfl | exact Nat.add_comm _ _)
      (by first | rfl | exact Nat.add_comm _ _)

/-- The numbers that the first layer's winner is looked for among: the softmax of a column where some potential fires, the
    potentials themselves where none does. -/
theorem select1 (x0 : Vec Ideal S2x128x128 .f32) (x1 : Vec Ideal S30x2x5x5 .f32) (o : Fin 30) (h v : Fin 128) :
    val_main_v146 (F := Ideal) x0 x1 (ix3 h v o) = Scalar.select
      (Finset.fold IntOp.ori 0#1 (fun x : Fin 30 => BitVec.ofBool (decide (Ideal.ofBits .f32 1075419546#32 < val_main_v129 (F := Ideal) x0 x1 (ix3 x h v)))) Finset.univ)
      (Ideal.div (Ideal.exp (val_main_v129 (F := Ideal) x0 x1 (ix3 o h v) - max (Ideal.ofBits .f32 4286578688#32) (Finset.fold max (Ideal.ofBits .f32 4286578688#32) (fun x : Fin 30 => val_main_v129 (F := Ideal) x0 x1 (ix3 x h v)) Finset.univ)))
        (∑ y : Fin 30, Ideal.exp (val_main_v129 (F := Ideal) x0 x1 (ix3 y h v) - max (Ideal.ofBits .f32 4286578688#32) (Finset.fold max (Ideal.ofBits .f32 4286578688#32) (fun x : Fin 30 => val_main_v129 (F := Ideal) x0 x1 (ix3 x h v)) Finset.univ))))
      (val_main_v129 (F := Ideal) x0 x1 (ix3 o h v)) := by
  pointwise [
    val_main_cst_1, val_main_v130, val_main_v131, val_main_c_2, val_main_v132, val_main_v133, val_main_cst_3,
    val_main_v134, val_main_cst_4, val_main_v135, val_main_v136, val_main_v137, val_main_v138, val_main_v139,
    val_main_v140, val_main_cst_5, val_main_v141, val_main_v142, val_main_v143, val_main_v144, val_main_call1_v0,
    val_main_v145, val_main_v146]

/-- The first layer's result: the winner's mark times the mark that some potential fires times the quotient. -/
theorem product1 (x0 : Vec Ideal S2x128x128 .f32) (x1 : Vec Ideal S30x2x5x5 .f32) (o : Fin 30) (h v : Fin 128) :
    val_main_v283 (F := Ideal) x0 x1 (ix3 o h v)
      = FloatOps.uitofp (F := Ideal) .f32 (IntOp.cmpi .eq (val_main_indices (F := Ideal) x0 x1 (ix3 h v (0 : Fin 1))) (BitVec.ofNat 32 o))
        * FloatOps.uitofp (F := Ideal) .f32 (Finset.fold IntOp.ori 0#1 (fun x : Fin 30 => BitVec.ofBool (decide (Ideal.ofBits .f32 1075419546#32 < val_main_v129 (F := Ideal) x0 x1 (ix3 x h v)))) Finset.univ)
        * Ideal.div (val_main_v279 (F := Ideal) x0 x1 (ix3 o h v)) (max (val_main_v129 (F := Ideal) x0 x1 (ix3 o h v)) (Ideal.ofBits .f32 897988541#32)) := by
  pointwise [
    val_main_cst_1, val_main_v130, val_main_v131, val_main_c_2, val_main_v132, val_main_v133, val_main_v147,
    val_main_call2_v0, val_main_call2_v1, val_main_call2_v2, val_main_call2_v3, val_main_call2_v4, val_main_v148,
    val_main_v149, val_main_v150, val_main_v151, val_main_v152, val_main_cst_8, val_main_v280, val_main_v281,
    val_main_v282, val_main_v283]

/-- The first layer's result is the spiking layer, where no weight is infinity. -/
theorem layer1_ref (x0 : Vec Ideal S2x128x128 .f32) (x1 : Vec Ideal S30x2x5x5 .f32) (hw : ∀ i, (x1 i : EReal) ≠ ⊤) (o : Fin 30) (h v : Fin 128) :
    val_main_v283 (F := Ideal) x0 x1 (ix3 o h v)
      = layer 2 30 5 2 128 128 thr1 (bank x1) (img x0) o h v := by
  obtain ⟨k, e, h1, h2⟩ := top_first (by decide) (val_main_v146 (F := Ideal) x0 x1) sliceFits_S128x128x30_S128x128x1 h v
  exact (product1 x0 x1 o h v).trans
    (layer_at (by decide) thr1 (bank x1) (bank_ne_top _ hw) (img x0) h v _ (fun x => val_main_v129 (F := Ideal) x0 x1 (ix3 x h v)) _ _ rfl k o _ e
      (fun x => ind_conv1 x0 x1 x h v) (time_conv1 x0 x1 o h v) (fun x => select1 x0 x1 x h v) h1 h2)

/-- What the first layer hands on: the greatest of each two-by-two square of its result. -/
theorem pool1_ref (x0 : Vec Ideal S2x128x128 .f32) (x1 : Vec Ideal S30x2x5x5 .f32) (c : Fin 30) (a b : Fin 64) :
    val_main_v285 (F := Ideal) x0 x1 (ix3 c a b) = pool (img (val_main_v283 (F := Ideal) x0 x1)) c a b :=
  pool_window (by decide) (by decide) _ _ _ _ ofBits_neg_inf c a b

end Cert.Snn

end
-- ==== Proof.Ref2.lean ====
/-
  The reference's second layer: its two padded frames, its two convolutions, the place it picks in each column, and the
  spike times it writes.
-/
module

public import proofs.«01_k».proof.Proof.RefTap
public import proofs.«01_k».proof.Proof.Gen.ReferenceIdeal.Read
public import Idealize.ShloMosaic.Lib.Pointwise

@[expose] public section

set_option maxRecDepth 16384
set_option maxHeartbeats 2000000

noncomputable section

open scoped BigOperators

namespace Cert.Snn

open Idealize.ShloMosaic Cert.ReferenceIdeal Cert.ReferenceIdeal.Gen Cert.ReferenceIdeal.Read

/-- The second layer's frame of steps reads the padded steps. -/
theorem ind_pad2 (x0 : Vec Ideal S2x128x128 .f32) (x1 : Vec Ideal S30x2x5x5 .f32) (c : Fin 30) (a b : Fin 66) :
    val_main_v289 (F := Ideal) x0 x1 (ix3 c a b) = padAt 1 64 64 (fun c a b => step (img (val_main_v285 (F := Ideal) x0 x1) c a b)) c a b := by
  pointwise [val_main_cst_10, val_main_v286, val_main_v287, val_main_v288, val_main_c_11, val_main_call4_v0, val_main_v289]
  refine pad_choice (fun c a b => step (img (val_main_v285 (F := Ideal) x0 x1) c a b)) _ _ (by omega) _ _ (fun _ => ?_) (fun _ => sitofp_zero)
  exact (uitofp_step _).trans (congrArg step (img_read _ _ rfl rfl rfl))

/-- The second layer's frame of times reads the padded times. -/
theorem time_pad2 (x0 : Vec Ideal S2x128x128 .f32) (x1 : Vec Ideal S30x2x5x5 .f32) (c : Fin 30) (a b : Fin 66) :
    val_main_v359 (F := Ideal) x0 x1 (ix3 c a b) = padAt 1 64 64 (img (val_main_v285 (F := Ideal) x0 x1)) c a b := by
  pointwise [val_main_c_20, val_main_call7_v0, val_main_v359]
  refine pad_choice (img (val_main_v285 (F := Ideal) x0 x1)) _ _ (by omega) _ _ (fun _ => ?_) (fun _ => sitofp_zero)
  exact img_read _ _ rfl rfl rfl

/-- The second layer's potentials are the convolution of the steps. -/
theorem ind_conv2 (x0 : Vec Ideal S2x128x128 .f32) (x1 : Vec Ideal S30x2x5x5 .f32) (x2 : Vec Ideal S100x30x3x3 .f32) (o : Fin 100) (h v : Fin 64) :
    val_main_v335 (F := Ideal) x0 x1 x2 (ix3 o h v) = conv 30 3 1 64 64 (bank x2) (fun c a b => step (img (val_main_v285 (F := Ideal) x0 x1) c a b)) o h v := by
  pointwise [
    val_main_cst_12, val_main_v290, val_main_v291, val_main_v292, val_main_v293, val_main_v294, val_main_v295,
    val_main_v296, val_main_v297, val_main_v298, val_main_v299, val_main_v300, val_main_v301, val_main_v302,
    val_main_v303, val_main_v304, val_main_v305, val_main_v306, val_main_v307, val_main_v308, val_main_v309,
    val_main_v310, val_main_v311, val_main_v312, val_main_v313, val_main_v314, val_main_v315, val_main_v316,
    val_main_v317, val_main_v318, val_main_v319, val_main_v320, val_main_v321, val_main_v322, val_main_v323,
    val_main_v324, val_main_v325, val_main_v326, val_main_v327, val_main_v328, val_main_v329, val_main_v330,
    val_main_v331, val_main_v332, val_main_v333, val_main_v334, val_main_v335]
  refine Eq.trans ?_ (conv_three 30 1 64 64 (bank x2) (fun c a b => step (img (val_main_v285 (F := Ideal) x0 x1) c a b)) o h v)
  iterate 8 refine congrArg₂ (· + ·) ?_ ?_
  all_goals
    exact tap_sum x2 _ (fun c a b => step (img (val_main_v285 (F := Ideal) x0 x1) c a b)) (ind_pad2 x0 x1) o h v _ _ _ _ (by first | rfl | exact Nat.add_comm _ _)
      (by first | rfl | exact Nat.add_comm _ _)

/-- The second layer's weighted times are the convolution of the times. -/
theorem time_conv2 (x0 : Vec Ideal S2x128x128 .f32) (x1 : Vec Ideal S30x2x5x5 .f32) (x2 : Vec Ideal S100x30x3x3 .f32) (o : Fin 100) (h v : Fin 64) :
    val_main_v405 (F := Ideal) x0 x1 x2 (ix3 o h v) = conv 30 3 1 64 64 (bank x2) (img (val_main_v285 (F := Ideal) x0 x1)) o h v := by
  pointwise [
    val_main_cst_21, val_main_v360, val_main_v361, val_main_v362, val_main_v363, val_main_v364, val_main_v365,
    val_main_v366, val_main_v367, val_main_v368, val_main_v369, val_main_v370, val_main_v371, val_main_v372,
    val_main_v373, val_main_v374, val_main_v375, val_main_v376, val_main_v377, val_main_v378, val_main_v379,
    val_main_v380, val_main_v381, val_main_v382, val_main_v383, val_main_v384, val_main_v385, val_main_v386,
    val_main_v387, val_main_v388, val_main_v389, val_main_v390, val_main_v391, val_main_v392, val_main_v393,
    val_main_v394, val_main_v395, val_main_v396, val_main_v397, val_main_v398, val_main_v399, val_main_v400,
    val_main_v401, val_main_v402, val_main_v403, val_main_v404, val_main_v405]
  refine Eq.trans ?_ (conv_three 30 1 64 64 (bank x2) (img (val_main_v285 (F := Ideal) x0 x1)) o h v)
  iterate 8 refine congrArg₂ (· + ·) ?_ ?_
  all_goals
    exact tap_sum x2 _ (img (val_main_v285 (F := Ideal) x0 x1)) (time_pad2 x0 x1) o h v _ _ _ _ (by first | rfl | exact Nat.add_comm _ _)
      (by first | rfl | exact Nat.add_comm _ _)

/-- The numbers that the second layer's winner is looked for among: the softmax of a column where some potential fires, the
    potentials themselves where none does. -/
theorem select2 (x0 : Vec Ideal S2x128x128 .f32) (x1 : Vec Ideal S30x2x5x5 .f32) (x2 : Vec Ideal S100x30x3x3 .f32) (o : Fin 100) (h v : Fin 64) :
    val_main_v352 (F := Ideal) x0 x1 x2 (ix3 h v o) = Scalar.select
      (Finset.fold IntOp.ori 0#1 (fun x : Fin 100 => BitVec.ofBool (decide (Ideal.ofBits .f32 1065353216#32 < val_main_v335 (F := Ideal) x0 x1 x2 (ix3 x h v)))) Finset.univ)
      (Ideal.div (Ideal.exp (val_main_v335 (F := Ideal) x0 x1 x2 (ix3 o h v) - max (Ideal.ofBits .f32 4286578688#32) (Finset.fold max (Ideal.ofBits .f32 4286578688#32) (fun x : Fin 100 => val_main_v335 (F := Ideal) x0 x1 x2 (ix3 x h v)) Finset.univ)))
        (∑ y : Fin 100, Ideal.exp (val_main_v335 (F := Ideal) x0 x1 x2 (ix3 y h v) - max (Ideal.ofBits .f32 4286578688#32) (Finset.fold max (Ideal.ofBits .f32 4286578688#32) (fun x : Fin 100 => val_main_v335 (F := Ideal) x0 x1 x2 (ix3 x h v)) Finset.univ))))
      (val_main_v335 (F := Ideal) x0 x1 x2 (ix3 o h v)) := by
  pointwise [
    val_main_cst_13, val_main_v336, val_main_v337, val_main_c_14, val_main_v338, val_main_v339, val_main_cst_15,
    val_main_v340, val_main_cst_16, val_main_v341, val_main_v342, val_main_v343, val_main_v344, val_main_v345,
    val_main_v346, val_main_cst_17, val_main_v347, val_main_v348, val_main_v349, val_main_v350, val_main_call5_v0,
    val_main_v351, val_main_v352]

/-- The second layer's result: the winner's mark times the mark that some potential fires times the quotient. -/
theorem product2 (x0 : Vec Ideal S2x128x128 .f32) (x1 : Vec Ideal S30x2x5x5 .f32) (x2 : Vec Ideal S100x30x3x3 .f32) (o : Fin 100) (h v : Fin 64) :
    val_main_v409 (F := Ideal) x0 x1 x2 (ix3 o h v)
      = FloatOps.uitofp (F := Ideal) .f32 (IntOp.cmpi .eq (val_main_indices_19 (F := Ideal) x0 x1 x2 (ix3 h v (0 : Fin 1))) (BitVec.ofNat 32 o))
        * FloatOps.uitofp (F := Ideal) .f32 (Finset.fold IntOp.ori 0#1 (fun x : Fin 100 => BitVec.ofBool (decide (Ideal.ofBits .f32 1065353216#32 < val_main_v335 (F := Ideal) x0 x1 x2 (ix3 x h v)))) Finset.univ)
        * Ideal.div (val_main_v405 (F := Ideal) x0 x1 x2 (ix3 o h v)) (max (val_main_v335 (F := Ideal) x0 x1 x2 (ix3 o h v)) (Ideal.ofBits .f32 897988541#32)) := by
  pointwise [
    val_main_cst_13, val_main_v336, val_main_v337, val_main_c_14, val_main_v338, val_main_v339, val_main_v353,
    val_main_call6_v0, val_main_call6_v1, val_main_call6_v2, val_main_call6_v3, val_main_call6_v4, val_main_v354,
    val_main_v355, val_main_v356, val_main_v357, val_main_v358, val_main_cst_22, val_main_v406, val_main_v407,
    val_main_v408, val_main_v409]

/-- The second layer's result is the spiking layer, where no weight is infinity. -/
theorem layer2_ref (x0 : Vec Ideal S2x128x128 .f32) (x1 : Vec Ideal S30x2x5x5 .f32) (x2 : Vec Ideal S100x30x3x3 .f32) (hw : ∀ i, (x2 i : EReal) ≠ ⊤) (o : Fin 100) (h v : Fin 64) :
    val_main_v409 (F := Ideal) x0 x1 x2 (ix3 o h v)
      = layer 30 100 3 1 64 64 thr2 (bank x2) (img (val_main_v285 (F := Ideal) x0 x1)) o h v := by
  obtain ⟨k, e, h1, h2⟩ := top_first (by decide) (val_main_v352 (F := Ideal) x0 x1 x2) sliceFits_S64x64x100_S64x64x1 h v
  exact (product2 x0 x1 x2 o h v).trans
    (layer_at (by decide) thr2 (bank x2) (bank_ne_top _ hw) (img (val_main_v285 (F := Ideal) x0 x1)) h v _ (fun x => val_main_v335 (F := Ideal) x0 x1 x2 (ix3 x h v)) _ _ rfl k o _ e
      (fun x => ind_conv2 x0 x1 x2 x h v) (time_conv2 x0 x1 x2 o h v) (fun x => select2 x0 x1 x2 x h v) h1 h2)

/-- What the second layer hands on: the greatest of each two-by-two square of its result. -/
theorem pool2_ref (x0 : Vec Ideal S2x128x128 .f32) (x1 : Vec Ideal S30x2x5x5 .f32) (x2 : Vec Ideal S100x30x3x3 .f32) (c : Fin 100) (a b : Fin 32) :
    val_main_v411 (F := Ideal) x0 x1 x2 (ix3 c a b) = pool (img (val_main_v409 (F := Ideal) x0 x1 x2)) c a b :=
  pool_window (by decide) (by decide) _ _ _ _ ofBits_neg_inf c a b

end Cert.Snn

end
-- ==== Proof.Ref3.lean ====
/-
  The reference's third layer: its two padded frames, its two convolutions, the place it picks in each column, and the
  spike times it writes.
-/
module

public import proofs.«01_k».proof.Proof.RefTap
public import proofs.«01_k».proof.Proof.Gen.ReferenceIdeal.Read
public import Idealize.ShloMosaic.Lib.Pointwise

@[expose] public section

set_option maxRecDepth 16384
set_option maxHeartbeats 2000000

noncomputable section

open scoped BigOperators

namespace Cert.Snn

open Idealize.ShloMosaic Cert.ReferenceIdeal Cert.ReferenceIdeal.Gen Cert.ReferenceIdeal.Read

/-- The third layer's frame of steps reads the padded steps. -/
theorem ind_pad3 (x0 : Vec Ideal S2x128x128 .f32) (x1 : Vec Ideal S30x2x5x5 .f32) (x2 : Vec Ideal S100x30x3x3 .f32) (c : Fin 100) (a b : Fin 34) :
    val_main_v415 (F := Ideal) x0 x1 x2 (ix3 c a b) = padAt 1 32 32 (fun c a b => step (img (val_main_v411 (F := Ideal) x0 x1 x2) c a b)) c a b := by
  pointwise [val_main_cst_24, val_main_v412, val_main_v413, val_main_v414, val_main_c_25, val_main_call8_v0, val_main_v415]
  refine pad_choice (fun c a b => step (img (val_main_v411 (F := Ideal) x0 x1 x2) c a b)) _ _ (by omega) _ _ (fun _ => ?_) (fun _ => sitofp_zero)
  exact (uitofp_step _).trans (congrArg step (img_read _ _ rfl rfl rfl))

/-- The third layer's frame of times reads the padded times. -/
theorem time_pad3 (x0 : Vec Ideal S2x128x128 .f32) (x1 : Vec Ideal S30x2x5x5 .f32) (x2 : Vec Ideal S100x30x3x3 .f32) (c : Fin 100) (a b : Fin 34) :
    val_main_v485 (F := Ideal) x0 x1 x2 (ix3 c a b) = padAt 1 32 32 (img (val_main_v411 (F := Ideal) x0 x1 x2)) c a b := by
  pointwise [val_main_c_34, val_main_call11_v0, val_main_v485]
  refine pad_choice (img (val_main_v411 (F := Ideal) x0 x1 x2)) _ _ (by omega) _ _ (fun _ => ?_) (fun _ => sitofp_zero)
  exact img_read _ _ rfl rfl rfl

/-- The third layer's potentials are the convolution of the steps. -/
theorem ind_conv3 (x0 : Vec Ideal S2x128x128 .f32) (x1 : Vec Ideal S30x2x5x5 .f32) (x2 : Vec Ideal S100x30x3x3 .f32) (x3 : Vec Ideal S200x100x3x3 .f32) (o : Fin 200) (h v : Fin 32) :
    val_main_v461 (F := Ideal) x0 x1 x2 x3 (ix3 o h v) = conv 100 3 1 32 32 (bank x3) (fun c a b => step (img (val_main_v411 (F := Ideal) x0 x1 x2) c a b)) o h v := by
  pointwise [
    val_main_cst_26, val_main_v416, val_main_v417, val_main_v418, val_main_v419, val_main_v420, val_main_v421,
    val_main_v422, val_main_v423, val_main_v424, val_main_v425, val_main_v426, val_main_v427, val_main_v428,
    val_main_v429, val_main_v430, val_main_v431, val_main_v432, val_main_v433, val_main_v434, val_main_v435,
    val_main_v436, val_main_v437, val_main_v438, val_main_v439, val_main_v440, val_main_v441, val_main_v442,
    val_main_v443, val_main_v444, val_main_v445, val_main_v446, val_main_v447, val_main_v448, val_main_v449,
    val_main_v450, val_main_v451, val_main_v452, val_main_v453, val_main_v454, val_main_v455, val_main_v456,
    val_main_v457, val_main_v458, val_main_v459, val_main_v460, val_main_v461]
  refine Eq.trans ?_ (conv_three 100 1 32 32 (bank x3) (fun c a b => step (img (val_main_v411 (F := Ideal) x0 x1 x2) c a b)) o h v)
  iterate 8 refine congrArg₂ (· + ·) ?_ ?_
  all_goals
    exact tap_sum x3 _ (fun c a b => step (img (val_main_v411 (F := Ideal) x0 x1 x2) c a b)) (ind_pad3 x0 x1 x2) o h v _ _ _ _ (by first | rfl | exact Nat.add_comm _ _)
      (by first | rfl | exact Nat.add_comm _ _)

/-- The third layer's weighted times are the convolution of the times. -/
theorem time_conv3 (x0 : Vec Ideal S2x128x128 .f32) (x1 : Vec Ideal S30x2x5x5 .f32) (x2 : Vec Ideal S100x30x3x3 .f32) (x3 : Vec Ideal S200x100x3x3 .f32) (o : Fin 200) (h v : Fin 32) :
    val_main_v531 (F := Ideal) x0 x1 x2 x3 (ix3 o h v) = conv 100 3 1 32 32 (bank x3) (img (val_main_v411 (F := Ideal) x0 x1 x2)) o h v := by
  pointwise [
    val_main_cst_35, val_main_v486, val_main_v487, val_main_v488, val_main_v489, val_main_v490, val_main_v491,
    val_main_v492, val_main_v493, val_main_v494, val_main_v495, val_main_v496, val_main_v497, val_main_v498,
    val_main_v499, val_main_v500, val_main_v501, val_main_v502, val_main_v503, val_main_v504, val_main_v505,
    val_main_v506, val_main_v507, val_main_v508, val_main_v509, val_main_v510, val_main_v511, val_main_v512,
    val_main_v513, val_main_v514, val_main_v515, val_main_v516, val_main_v517, val_main_v518, val_main_v519,
    val_main_v520, val_main_v521, val_main_v522, val_main_v523, val_main_v524, val_main_v525, val_main_v526,
    val_main_v527, val_main_v528, val_main_v529, val_main_v530, val_main_v531]
  refine Eq.trans ?_ (conv_three 100 1 32 32 (bank x3) (img (val_main_v411 (F := Ideal) x0 x1 x2)) o h v)
  iterate 8 refine congrArg₂ (· + ·) ?_ ?_
  all_goals
    exact tap_sum x3 _ (img (val_main_v411 (F := Ideal) x0 x1 x2)) (time_pad3 x0 x1 x2) o h v _ _ _ _ (by first | rfl | exact Nat.add_comm _ _)
      (by first | rfl | exact Nat.add_comm _ _)

/-- The numbers that the third layer's winner is looked for among: the softmax of a column where some potential fires, the
    potentials themselves where none does. -/
theorem select3 (x0 : Vec Ideal S2x128x128 .f32) (x1 : Vec Ideal S30x2x5x5 .f32) (x2 : Vec Ideal S100x30x3x3 .f32) (x3 : Vec Ideal S200x100x3x3 .f32) (o : Fin 200) (h v : Fin 32) :
    val_main_v478 (F := Ideal) x0 x1 x2 x3 (ix3 h v o) = Scalar.select
      (Finset.fold IntOp.ori 0#1 (fun x : Fin 200 => BitVec.ofBool (decide (Ideal.ofBits .f32 1065353216#32 < val_main_v461 (F := Ideal) x0 x1 x2 x3 (ix3 x h v)))) Finset.univ)
      (Ideal.div (Ideal.exp (val_main_v461 (F := Ideal) x0 x1 x2 x3 (ix3 o h v) - max (Ideal.ofBits .f32 4286578688#32) (Finset.fold max (Ideal.ofBits .f32 4286578688#32) (fun x : Fin 200 => val_main_v461 (F := Ideal) x0 x1 x2 x3 (ix3 x h v)) Finset.univ)))
        (∑ y : Fin 200, Ideal.exp (val_main_v461 (F := Ideal) x0 x1 x2 x3 (ix3 y h v) - max (Ideal.ofBits .f32 4286578688#32) (Finset.fold max (Ideal.ofBits .f32 4286578688#32) (fun x : Fin 200 => val_main_v461 (F := Ideal) x0 x1 x2 x3 (ix3 x h v)) Finset.univ))))
      (val_main_v461 (F := Ideal) x0 x1 x2 x3 (ix3 o h v)) := by
  pointwise [
    val_main_cst_27, val_main_v462, val_main_v463, val_main_c_28, val_main_v464, val_main_v465, val_main_cst_29,
    val_main_v466, val_main_cst_30, val_main_v467, val_main_v468, val_main_v469, val_main_v470, val_main_v471,
    val_main_v472, val_main_cst_31, val_main_v473, val_main_v474, val_main_v475, val_main_v476, val_main_call9_v0,
    val_main_v477, val_main_v478]

/-- The third layer's result: the winner's mark times the mark that some potential fires times the quotient. -/
theorem product3 (x0 : Vec Ideal S2x128x128 .f32) (x1 : Vec Ideal S30x2x5x5 .f32) (x2 : Vec Ideal S100x30x3x3 .f32) (x3 : Vec Ideal S200x100x3x3 .f32) (o : Fin 200) (h v : Fin 32) :
    val_main_v535 (F := Ideal) x0 x1 x2 x3 (ix3 o h v)
      = FloatOps.uitofp (F := Ideal) .f32 (IntOp.cmpi .eq (val_main_indices_33 (F := Ideal) x0 x1 x2 x3 (ix3 h v (0 : Fin 1))) (BitVec.ofNat 32 o))
        * FloatOps.uitofp (F := Ideal) .f32 (Finset.fold IntOp.ori 0#1 (fun x : Fin 200 => BitVec.ofBool (decide (Ideal.ofBits .f32 1065353216#32 < val_main_v461 (F := Ideal) x0 x1 x2 x3 (ix3 x h v)))) Finset.univ)
        * Ideal.div (val_main_v531 (F := Ideal) x0 x1 x2 x3 (ix3 o h v)) (max (val_main_v461 (F := Ideal) x0 x1 x2 x3 (ix3 o h v)) (Ideal.ofBits .f32 897988541#32)) := by
  pointwise [
    val_main_cst_27, val_main_v462, val_main_v463, val_main_c_28, val_main_v464, val_main_v465, val_main_v479,
    val_main_call10_v0, val_main_call10_v1, val_main_call10_v2, val_main_call10_v3, val_main_call10_v4,
    val_main_v480, val_main_v481, val_main_v482, val_main_v483, val_main_v484, val_main_cst_36, val_main_v532,
    val_main_v533, val_main_v534, val_main_v535]

/-- The third layer's result is the spiking layer, where no weight is infinity. -/
theorem layer3_ref (x0 : Vec Ideal S2x128x128 .f32) (x1 : Vec Ideal S30x2x5x5 .f32) (x2 : Vec Ideal S100x30x3x3 .f32) (x3 : Vec Ideal S200x100x3x3 .f32) (hw : ∀ i, (x3 i : EReal) ≠ ⊤) (o : Fin 200) (h v : Fin 32) :
    val_main_v535 (F := Ideal) x0 x1 x2 x3 (ix3 o h v)
      = layer 100 200 3 1 32 32 thr2 (bank x3) (img (val_main_v411 (F := Ideal) x0 x1 x2)) o h v := by
  obtain ⟨k, e, h1, h2⟩ := top_first (by decide) (val_main_v478 (F := Ideal) x0 x1 x2 x3) sliceFits_S32x32x200_S32x32x1 h v
  exact (product3 x0 x1 x2 x3 o h v).trans
    (layer_at (by decide) thr2 (bank x3) (bank_ne_top _ hw) (img (val_main_v411 (F := Ideal) x0 x1 x2)) h v _ (fun x => val_main_v461 (F := Ideal) x0 x1 x2 x3 (ix3 x h v)) _ _ rfl k o _ e
      (fun x => ind_conv3 x0 x1 x2 x3 x h v) (time_conv3 x0 x1 x2 x3 o h v) (fun x => select3 x0 x1 x2 x3 x h v) h1 h2)

end Cert.Snn

end
-- ==== Proof.RefNet.lean ====
/-
  The reference's result: the network of three spiking layers.
-/
module

public import proofs.«01_k».proof.Proof.Ref1
public import proofs.«01_k».proof.Proof.Ref2
public import proofs.«01_k».proof.Proof.Ref3

@[expose] public section

noncomputable section

namespace Cert.Snn

open Idealize.ShloMosaic Cert.ReferenceIdeal Cert.ReferenceIdeal.Gen Cert.ReferenceIdeal.Read

/-- A stack of images known entry by entry, inside its extents. -/
theorem img_eq {a b c : ℕ} (X : (⟨3, ![a, b, c]⟩ : Shape).Idx → EReal) (f : Img)
    (h : ∀ (i : Fin a) (j : Fin b) (k : Fin c), X (ix3 i j k) = f i j k) {i j k : ℕ} (hi : i < a) (hj : j < b) (hk : k < c) :
    img X i j k = f i j k :=
  (img_apply X ⟨i, hi⟩ ⟨j, hj⟩ ⟨k, hk⟩).trans (h _ _ _)

/-- Pooled images agree where the images do. -/
theorem pool_eq {f g : Img} {c a b A B : ℕ} (h : ∀ i < A, ∀ j < B, f c i j = g c i j) (ha : 2 * a + 1 < A) (hb : 2 * b + 1 < B) :
    pool f c a b = pool g c a b := by
  unfold pool
  rw [h _ (by omega) _ (by omega), h _ (by omega) _ (by omega), h _ (by omega) _ (by omega), h _ (by omega) _ (by omega)]

/-- After the first layer and its pooling. -/
theorem net1_ref (x0 : Vec Ideal S2x128x128 .f32) (x1 : Vec Ideal S30x2x5x5 .f32) (h1 : ∀ i, (x1 i : EReal) ≠ ⊤)
    (c : Fin 30) (a b : Fin 64) :
    val_main_v285 (F := Ideal) x0 x1 (ix3 c a b) = net1 (img x0) (bank x1) c a b :=
  (pool1_ref x0 x1 c a b).trans
    (pool_eq (fun _ hi _ hj => img_eq _ _ (layer1_ref x0 x1 h1) c.2 hi hj) (by omega) (by omega))

/-- After the second layer and its pooling. -/
theorem net2_ref (x0 : Vec Ideal S2x128x128 .f32) (x1 : Vec Ideal S30x2x5x5 .f32) (x2 : Vec Ideal S100x30x3x3 .f32)
    (h1 : ∀ i, (x1 i : EReal) ≠ ⊤) (h2 : ∀ i, (x2 i : EReal) ≠ ⊤) (c : Fin 100) (a b : Fin 32) :
    val_main_v411 (F := Ideal) x0 x1 x2 (ix3 c a b) = net2 (img x0) (bank x1) (bank x2) c a b :=
  (pool2_ref x0 x1 x2 c a b).trans
    (pool_eq (fun _ hi _ hj => (img_eq _ _ (layer2_ref x0 x1 x2 h2) c.2 hi hj).trans
      (layer_congr fun _ hc _ hi _ hj => img_eq _ _ (net1_ref x0 x1 h1) hc hi hj)) (by omega) (by omega))

/-- The reference computes the network, where no weight is infinity. -/
theorem net_ref (x0 : Vec Ideal S2x128x128 .f32) (x1 : Vec Ideal S30x2x5x5 .f32) (x2 : Vec Ideal S100x30x3x3 .f32)
    (x3 : Vec Ideal S200x100x3x3 .f32) (h1 : ∀ i, (x1 i : EReal) ≠ ⊤) (h2 : ∀ i, (x2 i : EReal) ≠ ⊤)
    (h3 : ∀ i, (x3 i : EReal) ≠ ⊤) (o : Fin 200) (h v : Fin 32) :
    val_main_v535 (F := Ideal) x0 x1 x2 x3 (ix3 o h v) = net (img x0) (bank x1) (bank x2) (bank x3) o h v :=
  (layer3_ref x0 x1 x2 x3 h3 o h v).trans
    (layer_congr fun _ hc _ hi _ hj => img_eq _ _ (net2_ref x0 x1 x2 h1 h2) hc hi hj)

end Cert.Snn

end
-- ==== Proof.Weights.lean ====
/-
  What the precondition says: no weight is infinity.
-/
module

public import proofs.«01_k».proof.Pre_weights_below_infinity
public import Idealize.ShloMosaic.PureOps.Ideal.Laws
public import Idealize.ShloMosaic.Lib.WordCmp

@[expose] public section

noncomputable section

namespace Cert.Snn

open Idealize.ShloMosaic Idealize.ShloMosaic.WordCmp

/-- The bits of plus infinity. -/
theorem ofBits_pos_inf : Ideal.ofBits .f32 0x7F800000#32 = (⊤ : EReal) := by
  simp [Ideal.ofBits, Ideal.ieee]

/-- The precondition's side conditions hold. -/
theorem pre_facts : Cert.Pre_weights_below_infinity.Facts where
  bcast_S_S30x2x5x5 := by decide
  bcast_S_S100x30x3x3 := by decide
  bcast_S_S200x100x3x3 := by decide

/-- An entry whose comparison with plus infinity is set is not plus infinity. -/
theorem ne_top_of_bit {x : EReal} (h : BitVec.ofBool (decide (x < Ideal.ofBits .f32 0x7F800000#32)) = 1#1) : x ≠ ⊤ := by
  rw [ofBool_eq_one_iff, decide_eq_true_iff, ofBits_pos_inf] at h
  exact h.ne

open Cert.Pre_weights_below_infinity in
/-- Where the precondition holds, no weight is infinity. -/
theorem weights_ne_top [hF : Cert.Pre_weights_below_infinity.Facts] (x0 : Vec Ideal S2x128x128 .f32) (x1 : Vec Ideal S30x2x5x5 .f32)
    (x2 : Vec Ideal S100x30x3x3 .f32) (x3 : Vec Ideal S200x100x3x3 .f32)
    (h : (fn (F := Ideal) x0 x1 x2 x3).1 = (fun _ => 1#1) ∧ (fn (F := Ideal) x0 x1 x2 x3).2.1 = (fun _ => 1#1)
      ∧ (fn (F := Ideal) x0 x1 x2 x3).2.2 = (fun _ => 1#1)) :
    (∀ i, (x1 i : EReal) ≠ ⊤) ∧ (∀ i, (x2 i : EReal) ≠ ⊤) ∧ ∀ i, (x3 i : EReal) ≠ ⊤ :=
  ⟨fun i => ne_top_of_bit (congrFun h.1 i), fun i => ne_top_of_bit (congrFun h.2.1 i), fun i => ne_top_of_bit (congrFun h.2.2 i)⟩

end Cert.Snn

end
-- ==== Proof.Equation.lean ====
/-
  The equation: the kernel and the reference, run from the same arguments, leave the same array.
-/
module

public import proofs.«01_k».proof.Defs
public import proofs.«01_k».proof.Proof.KernelArr
public import proofs.«01_k».proof.Proof.RefNet
public import proofs.«01_k».proof.Proof.Weights
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Snn

open Idealize.ShloMosaic Idealize.SL.Sem

/-- The reference's array, as a function of its arguments, is the network. -/
theorem reference_arr (x0 : Vec Ideal Cert.ReferenceIdeal.S2x128x128 .f32) (x1 : Vec Ideal Cert.ReferenceIdeal.S30x2x5x5 .f32)
    (x2 : Vec Ideal Cert.ReferenceIdeal.S100x30x3x3 .f32) (x3 : Vec Ideal Cert.ReferenceIdeal.S200x100x3x3 .f32)
    (h : (∀ i, (x1 i : EReal) ≠ ⊤) ∧ (∀ i, (x2 i : EReal) ≠ ⊤) ∧ ∀ i, (x3 i : EReal) ≠ ⊤) :
    Cert.ReferenceIdeal.Read.val_main_v535 (F := Ideal) x0 x1 x2 x3
      = fun x : Cert.ReferenceIdeal.S200x32x32.Idx => net (img x0) (bank x1) (bank x2) (bank x3) (x 0) (x 1) (x 2) := by
  funext x
  exact (congrArg _ (eq_ix3 x)).trans (net_ref x0 x1 x2 x3 h.1 h.2.1 h.2.2 (x 0) (x 1) (x 2))

/-- From memories that agree on the arguments, no weight being infinity, the kernel and the reference end with the same array. -/
theorem equal_results : @Cert.algebraic_KernelIdeal_ReferenceIdeal_pre_weights_below_infinity
    Cert.KernelIdeal.Gen.facts Cert.ReferenceIdeal.Gen.facts pre_facts := by
  intro m g m' g' hpre hagree
  refine ⟨_, Cert.KernelIdeal.Value.run_blocks m g, ?_⟩
  refine (θ_run _ _ _).mono (fun r h c => ⟨?_, (h c).2⟩) (Cert.ReferenceIdeal.Value.run m' g')
  obtain ⟨a0, a1, a2, a3⟩ := hagree c
  refine (h c).1.trans ((Cert.ReferenceIdeal.Read.val_main_v535_eq (F := Ideal) (StableHlo.launchContents m' c)).trans ?_)
  have e : ∀ (y0 : Vec Ideal Cert.ReferenceIdeal.S2x128x128 .f32) (y1 : Vec Ideal Cert.ReferenceIdeal.S30x2x5x5 .f32)
      (y2 : Vec Ideal Cert.ReferenceIdeal.S100x30x3x3 .f32) (y3 : Vec Ideal Cert.ReferenceIdeal.S200x100x3x3 .f32),
      y0 = m ((c.tc : Thread Cert.KernelIdeal.nD Cert.KernelIdeal.τ).loc Cert.KernelIdeal.main_arg0) →
      y1 = m ((c.tc : Thread Cert.KernelIdeal.nD Cert.KernelIdeal.τ).loc Cert.KernelIdeal.main_arg1) →
      y2 = m ((c.tc : Thread Cert.KernelIdeal.nD Cert.KernelIdeal.τ).loc Cert.KernelIdeal.main_arg2) →
      y3 = m ((c.tc : Thread Cert.KernelIdeal.nD Cert.KernelIdeal.τ).loc Cert.KernelIdeal.main_arg3) →
      Cert.ReferenceIdeal.Read.val_main_v535 (F := Ideal) y0 y1 y2 y3 = (Cert.KernelIdeal.Gen.dats m 0 c).arrAt 2 Cert.KernelIdeal.cfg0.N := by
    rintro y0 y1 y2 y3 rfl rfl rfl rfl
    exact (reference_arr _ _ _ _ (weights_ne_top (hF := pre_facts) _ _ _ _ (hpre c))).trans (kernel_arr m c).symm
  exact e _ _ _ _ a0 a1 a2 a3

end Cert.Snn

end
-- ==== Proof.lean ====
module

public import proofs.«01_k».proof.Defs
public import proofs.«01_k».proof.Proof.Equation
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The frame of the reference: it runs, its arguments end unchanged, and it declares no semaphore. -/
theorem frame_reference : @Cert.quiescent_ReferenceIdeal Cert.ReferenceIdeal.Gen.facts := fun m ρ _ =>
  (θ_run _ _ _).mono
    (fun r h => ⟨fun c => (h c).2, sem_eq_zero_of_no_sems (by decide) r.2⟩)
    (Cert.ReferenceIdeal.Value.run m ρ)

/-- Every claim of the certificate: the frames, the kernel's own text read over the extended reals, and the equality of the
    kernel's and the reference's results where no weight is infinity. -/
theorem claim : Cert.Claim :=
  ⟨Cert.Kernel.Gen.facts, Cert.KernelIdeal.Gen.facts, Cert.ReferenceIdeal.Gen.facts, Cert.Snn.pre_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    Cert.Snn.equal_results⟩

end Cert.Proof

end
